-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S8x2048x2048 : Shape := ⟨3, ![8, 2048, 2048]⟩
abbrev S_ : Shape := ⟨0, ![]⟩
abbrev S1 : Shape := ⟨1, ![1]⟩
abbrev S2 : Shape := ⟨1, ![2]⟩
abbrev S1x1x1 : Shape := ⟨3, ![1, 1, 1]⟩
abbrev S8x2048x21 : Shape := ⟨3, ![8, 2048, 21]⟩
abbrev S8x2048x20 : Shape := ⟨3, ![8, 2048, 20]⟩

class Facts : Prop where
  bcast_S_S1 : S_.BroadcastsInDim S1 (![] : Fin 0 → Fin S1.rank)
  concatenates_S1_S1_S2_d0 : Shape.Concatenates [S1, S1] S2 0
  bcast_S_S1x1x1 : S_.BroadcastsInDim S1x1x1 (![] : Fin 0 → Fin S1x1x1.rank)
  slices_S2_S1_0 : S2.Slices ![0] S1
  shapeCasts_S1_S_ : S1.ShapeCasts S_
  slices_S2_S1_1 : S2.Slices ![1] S1
  bcast_S_S8x2048x2048 : S_.BroadcastsInDim S8x2048x2048 (![] : Fin 0 → Fin S8x2048x2048.rank)
  natLt_32_64 : 32 < 64
  bcast_S1x1x1_S8x2048x2048_0_1_2 : S1x1x1.BroadcastsInDim S8x2048x2048 (![0, 1, 2] : Fin 3 → Fin S8x2048x2048.rank)
  sliceFits_S8x2048x2048_S8x2048x21 : S8x2048x2048.Slices (fun _ => 0) S8x2048x21
  slices_S8x2048x21_S8x2048x20_0_0_1 : S8x2048x21.Slices ![0, 0, 1] S8x2048x20
  slices_S8x2048x21_S8x2048x20_0_0_0 : S8x2048x21.Slices ![0, 0, 0] S8x2048x20

variable [Facts]

def fn_threefry2x32_part9 {F : FTy → Type} [FloatOps F] (arg0 : IVec S_ 32) (v163 : IVec S8x2048x2048 32) (v169 : IVec S8x2048x2048 32) (v170 : IVec S8x2048x2048 32) : IVec S8x2048x2048 32 × IVec S8x2048x2048 32 :=
  let v171 : IVec S8x2048x2048 32 := addi v163 v170
  let v172 : IVec S8x2048x2048 32 := broadcastInDim S8x2048x2048 ![] bcast_S_S8x2048x2048 arg0
  let v173 : IVec S8x2048x2048 32 := addi v169 v172
  let c_44 : IVec S_ 32 := constantI S_ 32 5#32
  let v174 : IVec S8x2048x2048 32 := broadcastInDim S8x2048x2048 ![] bcast_S_S8x2048x2048 c_44
  let v175 : IVec S8x2048x2048 32 := addi v173 v174
  (v171, v175)

def fn_threefry2x32_part8 {F : FTy → Type} [FloatOps F] (arg0 : IVec S_ 32) (v1 : IVec S_ 32) (v148 : IVec S8x2048x2048 32) (v149 : IVec S8x2048x2048 32) (v151 : IVec S8x2048x2048 32) : IVec S8x2048x2048 32 × IVec S8x2048x2048 32 :=
  let c_39 : IVec S_ 32 := constantI S_ 32 17#32
  let v152 : IVec S8x2048x2048 32 := broadcastInDim S8x2048x2048 ![] bcast_S_S8x2048x2048 c_39
  let v153 : IVec S8x2048x2048 32 := Host.shrui v148 v152
  let v154 : IVec S8x2048x2048 32 := ori v151 v153
  let v155 : IVec S8x2048x2048 32 := xori v149 v154
  let v156 : IVec S8x2048x2048 32 := addi v149 v155
  let c_40 : IVec S_ 32 := constantI S_ 32 26#32
  let v157 : IVec S8x2048x2048 32 := broadcastInDim S8x2048x2048 ![] bcast_S_S8x2048x2048 c_40
  let v158 : IVec S8x2048x2048 32 := Host.shli v155 v157
  let c_41 : IVec S_ 32 := constantI S_ 32 6#32
  let v159 : IVec S8x2048x2048 32 := broadcastInDim S8x2048x2048 ![] bcast_S_S8x2048x2048 c_41
  let v160 : IVec S8x2048x2048 32 := Host.shrui v155 v159
  let v161 : IVec S8x2048x2048 32 := ori v158 v160
  let v162 : IVec S8x2048x2048 32 := xori v156 v161
  let v163 : IVec S8x2048x2048 32 := addi v156 v162
  let c_42 : IVec S_ 32 := constantI S_ 32 6#32
  let v164 : IVec S8x2048x2048 32 := broadcastInDim S8x2048x2048 ![] bcast_S_S8x2048x2048 c_42
  let v165 : IVec S8x2048x2048 32 := Host.shli v162 v164
  let c_43 : IVec S_ 32 := constantI S_ 32 26#32
  let v166 : IVec S8x2048x2048 32 := broadcastInDim S8x2048x2048 ![] bcast_S_S8x2048x2048 c_43
  let v167 : IVec S8x2048x2048 32 := Host.shrui v162 v166
  let v168 : IVec S8x2048x2048 32 := ori v165 v167
  let v169 : IVec S8x2048x2048 32 := xori v163 v168
  let v170 : IVec S8x2048x2048 32 := broadcastInDim S8x2048x2048 ![] bcast_S_S8x2048x2048 v1
  fn_threefry2x32_part9 (F := F) arg0 v163 v169 v170

def fn_threefry2x32_part7 {F : FTy → Type} [FloatOps F] (arg0 : IVec S_ 32) (arg1 : IVec S_ 32) (v1 : IVec S_ 32) (v128 : IVec S8x2048x2048 32) (v129 : IVec S8x2048x2048 32) (v131 : IVec S8x2048x2048 32) (c_34 : IVec S_ 32) : IVec S8x2048x2048 32 × IVec S8x2048x2048 32 :=
  let v132 : IVec S8x2048x2048 32 := broadcastInDim S8x2048x2048 ![] bcast_S_S8x2048x2048 c_34
  let v133 : IVec S8x2048x2048 32 := Host.shrui v128 v132
  let v134 : IVec S8x2048x2048 32 := ori v131 v133
  let v135 : IVec S8x2048x2048 32 := xori v129 v134
  let v136 : IVec S8x2048x2048 32 := broadcastInDim S8x2048x2048 ![] bcast_S_S8x2048x2048 arg1
  let v137 : IVec S8x2048x2048 32 := addi v129 v136
  let v138 : IVec S8x2048x2048 32 := broadcastInDim S8x2048x2048 ![] bcast_S_S8x2048x2048 v1
  let v139 : IVec S8x2048x2048 32 := addi v135 v138
  let c_35 : IVec S_ 32 := constantI S_ 32 4#32
  let v140 : IVec S8x2048x2048 32 := broadcastInDim S8x2048x2048 ![] bcast_S_S8x2048x2048 c_35
  let v141 : IVec S8x2048x2048 32 := addi v139 v140
  let v142 : IVec S8x2048x2048 32 := addi v137 v141
  let c_36 : IVec S_ 32 := constantI S_ 32 13#32
  let v143 : IVec S8x2048x2048 32 := broadcastInDim S8x2048x2048 ![] bcast_S_S8x2048x2048 c_36
  let v144 : IVec S8x2048x2048 32 := Host.shli v141 v143
  let c_37 : IVec S_ 32 := constantI S_ 32 19#32
  let v145 : IVec S8x2048x2048 32 := broadcastInDim S8x2048x2048 ![] bcast_S_S8x2048x2048 c_37
  let v146 : IVec S8x2048x2048 32 := Host.shrui v141 v145
  let v147 : IVec S8x2048x2048 32 := ori v144 v146
  let v148 : IVec S8x2048x2048 32 := xori v142 v147
  let v149 : IVec S8x2048x2048 32 := addi v142 v148
  let c_38 : IVec S_ 32 := constantI S_ 32 15#32
  let v150 : IVec S8x2048x2048 32 := broadcastInDim S8x2048x2048 ![] bcast_S_S8x2048x2048 c_38
  let v151 : IVec S8x2048x2048 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S8x2048x2048 32) (v113 : IVec S8x2048x2048 32) : IVec S8x2048x2048 32 × IVec S8x2048x2048 32 :=
  let v114 : IVec S8x2048x2048 32 := xori v108 v113
  let v115 : IVec S8x2048x2048 32 := addi v108 v114
  let c_29 : IVec S_ 32 := constantI S_ 32 29#32
  let v116 : IVec S8x2048x2048 32 := broadcastInDim S8x2048x2048 ![] bcast_S_S8x2048x2048 c_29
  let v117 : IVec S8x2048x2048 32 := Host.shli v114 v116
  let c_30 : IVec S_ 32 := constantI S_ 32 3#32
  let v118 : IVec S8x2048x2048 32 := broadcastInDim S8x2048x2048 ![] bcast_S_S8x2048x2048 c_30
  let v119 : IVec S8x2048x2048 32 := Host.shrui v114 v118
  let v120 : IVec S8x2048x2048 32 := ori v117 v119
  let v121 : IVec S8x2048x2048 32 := xori v115 v120
  let v122 : IVec S8x2048x2048 32 := addi v115 v121
  let c_31 : IVec S_ 32 := constantI S_ 32 16#32
  let v123 : IVec S8x2048x2048 32 := broadcastInDim S8x2048x2048 ![] bcast_S_S8x2048x2048 c_31
  let v124 : IVec S8x2048x2048 32 := Host.shli v121 v123
  let c_32 : IVec S_ 32 := constantI S_ 32 16#32
  let v125 : IVec S8x2048x2048 32 := broadcastInDim S8x2048x2048 ![] bcast_S_S8x2048x2048 c_32
  let v126 : IVec S8x2048x2048 32 := Host.shrui v121 v125
  let v127 : IVec S8x2048x2048 32 := ori v124 v126
  let v128 : IVec S8x2048x2048 32 := xori v122 v127
  let v129 : IVec S8x2048x2048 32 := addi v122 v128
  let c_33 : IVec S_ 32 := constantI S_ 32 24#32
  let v130 : IVec S8x2048x2048 32 := broadcastInDim S8x2048x2048 ![] bcast_S_S8x2048x2048 c_33
  let v131 : IVec S8x2048x2048 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S8x2048x2048 32) (v94 : IVec S8x2048x2048 32) : IVec S8x2048x2048 32 × IVec S8x2048x2048 32 :=
  let v95 : IVec S8x2048x2048 32 := addi v88 v94
  let c_24 : IVec S_ 32 := constantI S_ 32 6#32
  let v96 : IVec S8x2048x2048 32 := broadcastInDim S8x2048x2048 ![] bcast_S_S8x2048x2048 c_24
  let v97 : IVec S8x2048x2048 32 := Host.shli v94 v96
  let c_25 : IVec S_ 32 := constantI S_ 32 26#32
  let v98 : IVec S8x2048x2048 32 := broadcastInDim S8x2048x2048 ![] bcast_S_S8x2048x2048 c_25
  let v99 : IVec S8x2048x2048 32 := Host.shrui v94 v98
  let v100 : IVec S8x2048x2048 32 := ori v97 v99
  let v101 : IVec S8x2048x2048 32 := xori v95 v100
  let v102 : IVec S8x2048x2048 32 := broadcastInDim S8x2048x2048 ![] bcast_S_S8x2048x2048 arg0
  let v103 : IVec S8x2048x2048 32 := addi v95 v102
  let v104 : IVec S8x2048x2048 32 := broadcastInDim S8x2048x2048 ![] bcast_S_S8x2048x2048 arg1
  let v105 : IVec S8x2048x2048 32 := addi v101 v104
  let c_26 : IVec S_ 32 := constantI S_ 32 3#32
  let v106 : IVec S8x2048x2048 32 := broadcastInDim S8x2048x2048 ![] bcast_S_S8x2048x2048 c_26
  let v107 : IVec S8x2048x2048 32 := addi v105 v106
  let v108 : IVec S8x2048x2048 32 := addi v103 v107
  let c_27 : IVec S_ 32 := constantI S_ 32 17#32
  let v109 : IVec S8x2048x2048 32 := broadcastInDim S8x2048x2048 ![] bcast_S_S8x2048x2048 c_27
  let v110 : IVec S8x2048x2048 32 := Host.shli v107 v109
  let c_28 : IVec S_ 32 := constantI S_ 32 15#32
  let v111 : IVec S8x2048x2048 32 := broadcastInDim S8x2048x2048 ![] bcast_S_S8x2048x2048 c_28
  let v112 : IVec S8x2048x2048 32 := Host.shrui v107 v111
  let v113 : IVec S8x2048x2048 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S8x2048x2048 32) (v74 : IVec S8x2048x2048 32) (v75 : IVec S8x2048x2048 32) : IVec S8x2048x2048 32 × IVec S8x2048x2048 32 :=
  let v76 : IVec S8x2048x2048 32 := Host.shli v73 v75
  let c_19 : IVec S_ 32 := constantI S_ 32 19#32
  let v77 : IVec S8x2048x2048 32 := broadcastInDim S8x2048x2048 ![] bcast_S_S8x2048x2048 c_19
  let v78 : IVec S8x2048x2048 32 := Host.shrui v73 v77
  let v79 : IVec S8x2048x2048 32 := ori v76 v78
  let v80 : IVec S8x2048x2048 32 := xori v74 v79
  let v81 : IVec S8x2048x2048 32 := addi v74 v80
  let c_20 : IVec S_ 32 := constantI S_ 32 15#32
  let v82 : IVec S8x2048x2048 32 := broadcastInDim S8x2048x2048 ![] bcast_S_S8x2048x2048 c_20
  let v83 : IVec S8x2048x2048 32 := Host.shli v80 v82
  let c_21 : IVec S_ 32 := constantI S_ 32 17#32
  let v84 : IVec S8x2048x2048 32 := broadcastInDim S8x2048x2048 ![] bcast_S_S8x2048x2048 c_21
  let v85 : IVec S8x2048x2048 32 := Host.shrui v80 v84
  let v86 : IVec S8x2048x2048 32 := ori v83 v85
  let v87 : IVec S8x2048x2048 32 := xori v81 v86
  let v88 : IVec S8x2048x2048 32 := addi v81 v87
  let c_22 : IVec S_ 32 := constantI S_ 32 26#32
  let v89 : IVec S8x2048x2048 32 := broadcastInDim S8x2048x2048 ![] bcast_S_S8x2048x2048 c_22
  let v90 : IVec S8x2048x2048 32 := Host.shli v87 v89
  let c_23 : IVec S_ 32 := constantI S_ 32 6#32
  let v91 : IVec S8x2048x2048 32 := broadcastInDim S8x2048x2048 ![] bcast_S_S8x2048x2048 c_23
  let v92 : IVec S8x2048x2048 32 := Host.shrui v87 v91
  let v93 : IVec S8x2048x2048 32 := ori v90 v92
  let v94 : IVec S8x2048x2048 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S8x2048x2048 32) (v54 : IVec S8x2048x2048 32) (v56 : IVec S8x2048x2048 32) : IVec S8x2048x2048 32 × IVec S8x2048x2048 32 :=
  let c_14 : IVec S_ 32 := constantI S_ 32 16#32
  let v57 : IVec S8x2048x2048 32 := broadcastInDim S8x2048x2048 ![] bcast_S_S8x2048x2048 c_14
  let v58 : IVec S8x2048x2048 32 := Host.shrui v53 v57
  let v59 : IVec S8x2048x2048 32 := ori v56 v58
  let v60 : IVec S8x2048x2048 32 := xori v54 v59
  let v61 : IVec S8x2048x2048 32 := addi v54 v60
  let c_15 : IVec S_ 32 := constantI S_ 32 24#32
  let v62 : IVec S8x2048x2048 32 := broadcastInDim S8x2048x2048 ![] bcast_S_S8x2048x2048 c_15
  let v63 : IVec S8x2048x2048 32 := Host.shli v60 v62
  let c_16 : IVec S_ 32 := constantI S_ 32 8#32
  let v64 : IVec S8x2048x2048 32 := broadcastInDim S8x2048x2048 ![] bcast_S_S8x2048x2048 c_16
  let v65 : IVec S8x2048x2048 32 := Host.shrui v60 v64
  let v66 : IVec S8x2048x2048 32 := ori v63 v65
  let v67 : IVec S8x2048x2048 32 := xori v61 v66
  let v68 : IVec S8x2048x2048 32 := broadcastInDim S8x2048x2048 ![] bcast_S_S8x2048x2048 v1
  let v69 : IVec S8x2048x2048 32 := addi v61 v68
  let v70 : IVec S8x2048x2048 32 := broadcastInDim S8x2048x2048 ![] bcast_S_S8x2048x2048 arg0
  let v71 : IVec S8x2048x2048 32 := addi v67 v70
  let c_17 : IVec S_ 32 := constantI S_ 32 2#32
  let v72 : IVec S8x2048x2048 32 := broadcastInDim S8x2048x2048 ![] bcast_S_S8x2048x2048 c_17
  let v73 : IVec S8x2048x2048 32 := addi v71 v72
  let v74 : IVec S8x2048x2048 32 := addi v69 v73
  let c_18 : IVec S_ 32 := constantI S_ 32 13#32
  let v75 : IVec S8x2048x2048 32 := broadcastInDim S8x2048x2048 ![] bcast_S_S8x2048x2048 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S8x2048x2048 32) (v37 : IVec S8x2048x2048 32) (c_8 : IVec S_ 32) : IVec S8x2048x2048 32 × IVec S8x2048x2048 32 :=
  let v38 : IVec S8x2048x2048 32 := broadcastInDim S8x2048x2048 ![] bcast_S_S8x2048x2048 c_8
  let v39 : IVec S8x2048x2048 32 := addi v37 v38
  let v40 : IVec S8x2048x2048 32 := addi v35 v39
  let c_9 : IVec S_ 32 := constantI S_ 32 17#32
  let v41 : IVec S8x2048x2048 32 := broadcastInDim S8x2048x2048 ![] bcast_S_S8x2048x2048 c_9
  let v42 : IVec S8x2048x2048 32 := Host.shli v39 v41
  let c_10 : IVec S_ 32 := constantI S_ 32 15#32
  let v43 : IVec S8x2048x2048 32 := broadcastInDim S8x2048x2048 ![] bcast_S_S8x2048x2048 c_10
  let v44 : IVec S8x2048x2048 32 := Host.shrui v39 v43
  let v45 : IVec S8x2048x2048 32 := ori v42 v44
  let v46 : IVec S8x2048x2048 32 := xori v40 v45
  let v47 : IVec S8x2048x2048 32 := addi v40 v46
  let c_11 : IVec S_ 32 := constantI S_ 32 29#32
  let v48 : IVec S8x2048x2048 32 := broadcastInDim S8x2048x2048 ![] bcast_S_S8x2048x2048 c_11
  let v49 : IVec S8x2048x2048 32 := Host.shli v46 v48
  let c_12 : IVec S_ 32 := constantI S_ 32 3#32
  let v50 : IVec S8x2048x2048 32 := broadcastInDim S8x2048x2048 ![] bcast_S_S8x2048x2048 c_12
  let v51 : IVec S8x2048x2048 32 := Host.shrui v46 v50
  let v52 : IVec S8x2048x2048 32 := ori v49 v51
  let v53 : IVec S8x2048x2048 32 := xori v47 v52
  let v54 : IVec S8x2048x2048 32 := addi v47 v53
  let c_13 : IVec S_ 32 := constantI S_ 32 16#32
  let v55 : IVec S8x2048x2048 32 := broadcastInDim S8x2048x2048 ![] bcast_S_S8x2048x2048 c_13
  let v56 : IVec S8x2048x2048 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S8x2048x2048 32) (v18 : IVec S8x2048x2048 32) : IVec S8x2048x2048 32 × IVec S8x2048x2048 32 :=
  let v19 : IVec S8x2048x2048 32 := xori v13 v18
  let v20 : IVec S8x2048x2048 32 := addi v13 v19
  let c_4 : IVec S_ 32 := constantI S_ 32 26#32
  let v21 : IVec S8x2048x2048 32 := broadcastInDim S8x2048x2048 ![] bcast_S_S8x2048x2048 c_4
  let v22 : IVec S8x2048x2048 32 := Host.shli v19 v21
  let c_5 : IVec S_ 32 := constantI S_ 32 6#32
  let v23 : IVec S8x2048x2048 32 := broadcastInDim S8x2048x2048 ![] bcast_S_S8x2048x2048 c_5
  let v24 : IVec S8x2048x2048 32 := Host.shrui v19 v23
  let v25 : IVec S8x2048x2048 32 := ori v22 v24
  let v26 : IVec S8x2048x2048 32 := xori v20 v25
  let v27 : IVec S8x2048x2048 32 := addi v20 v26
  let c_6 : IVec S_ 32 := constantI S_ 32 6#32
  let v28 : IVec S8x2048x2048 32 := broadcastInDim S8x2048x2048 ![] bcast_S_S8x2048x2048 c_6
  let v29 : IVec S8x2048x2048 32 := Host.shli v26 v28
  let c_7 : IVec S_ 32 := constantI S_ 32 26#32
  let v30 : IVec S8x2048x2048 32 := broadcastInDim S8x2048x2048 ![] bcast_S_S8x2048x2048 c_7
  let v31 : IVec S8x2048x2048 32 := Host.shrui v26 v30
  let v32 : IVec S8x2048x2048 32 := ori v29 v31
  let v33 : IVec S8x2048x2048 32 := xori v27 v32
  let v34 : IVec S8x2048x2048 32 := broadcastInDim S8x2048x2048 ![] bcast_S_S8x2048x2048 arg1
  let v35 : IVec S8x2048x2048 32 := addi v27 v34
  let v36 : IVec S8x2048x2048 32 := broadcastInDim S8x2048x2048 ![] bcast_S_S8x2048x2048 v1
  let v37 : IVec S8x2048x2048 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S8x2048x2048 32) (arg3 : IVec S8x2048x2048 32) : IVec S8x2048x2048 32 × IVec S8x2048x2048 32 :=
  let v0 : IVec S_ 32 := xori arg0 arg1
  let c : IVec S_ 32 := constantI S_ 32 466688986#32
  let v1 : IVec S_ 32 := xori v0 c
  let v2 : IVec S8x2048x2048 32 := broadcastInDim S8x2048x2048 ![] bcast_S_S8x2048x2048 arg0
  let v3 : IVec S8x2048x2048 32 := addi arg2 v2
  let v4 : IVec S8x2048x2048 32 := broadcastInDim S8x2048x2048 ![] bcast_S_S8x2048x2048 arg1
  let v5 : IVec S8x2048x2048 32 := addi arg3 v4
  let v6 : IVec S8x2048x2048 32 := addi v3 v5
  let c_0 : IVec S_ 32 := constantI S_ 32 13#32
  let v7 : IVec S8x2048x2048 32 := broadcastInDim S8x2048x2048 ![] bcast_S_S8x2048x2048 c_0
  let v8 : IVec S8x2048x2048 32 := Host.shli v5 v7
  let c_1 : IVec S_ 32 := constantI S_ 32 19#32
  let v9 : IVec S8x2048x2048 32 := broadcastInDim S8x2048x2048 ![] bcast_S_S8x2048x2048 c_1
  let v10 : IVec S8x2048x2048 32 := Host.shrui v5 v9
  let v11 : IVec S8x2048x2048 32 := ori v8 v10
  let v12 : IVec S8x2048x2048 32 := xori v6 v11
  let v13 : IVec S8x2048x2048 32 := addi v6 v12
  let c_2 : IVec S_ 32 := constantI S_ 32 15#32
  let v14 : IVec S8x2048x2048 32 := broadcastInDim S8x2048x2048 ![] bcast_S_S8x2048x2048 c_2
  let v15 : IVec S8x2048x2048 32 := Host.shli v12 v14
  let c_3 : IVec S_ 32 := constantI S_ 32 17#32
  let v16 : IVec S8x2048x2048 32 := broadcastInDim S8x2048x2048 ![] bcast_S_S8x2048x2048 c_3
  let v17 : IVec S8x2048x2048 32 := Host.shrui v12 v16
  let v18 : IVec S8x2048x2048 32 := ori v15 v17
  fn_threefry2x32_part1 (F := F) arg0 arg1 v1 v13 v18

def fn_uniform_part1 {F : FTy → Type} [FloatOps F] (v2 : FVec F S1x1x1 .f32) (v3 : FVec F S1x1x1 .f32) (v5 : IVec S_ 32) (v7 : IVec S_ 32) (v18 : IVec S8x2048x2048 64) (v19 : IVec S8x2048x2048 64) : FVec F S8x2048x2048 .f32 :=
  let v20 : IVec S8x2048x2048 64 := Host.shrui v18 v19
  let v21 : IVec S8x2048x2048 32 := (trunci 32 · natLt_32_64) v18
  let v22 : IVec S8x2048x2048 32 := (trunci 32 · natLt_32_64) v20
  let v23_0 : IVec S8x2048x2048 32 := (fn_threefry2x32 (F := F) v5 v7 v22 v21).1
  let v23_1 : IVec S8x2048x2048 32 := (fn_threefry2x32 (F := F) v5 v7 v22 v21).2
  let v24 : IVec S8x2048x2048 32 := xori v23_0 v23_1
  let c_3 : IVec S_ 32 := constantI S_ 32 9#32
  let v25 : IVec S8x2048x2048 32 := broadcastInDim S8x2048x2048 ![] bcast_S_S8x2048x2048 c_3
  let v26 : IVec S8x2048x2048 32 := Host.shrui v24 v25
  let c_4 : IVec S_ 32 := constantI S_ 32 1065353216#32
  let v27 : IVec S8x2048x2048 32 := broadcastInDim S8x2048x2048 ![] bcast_S_S8x2048x2048 c_4
  let v28 : IVec S8x2048x2048 32 := ori v26 v27
  let v29 : FVec F S8x2048x2048 .f32 := bitcastToFloat .f32 v28
  let cst : FVec F S_ .f32 := constant S_ .f32 0x3F800000#32
  let v30 : FVec F S8x2048x2048 .f32 := broadcastInDim S8x2048x2048 ![] bcast_S_S8x2048x2048 cst
  let v31 : FVec F S8x2048x2048 .f32 := subf v29 v30
  let v32 : FVec F S1x1x1 .f32 := subf v3 v2
  let v33 : FVec F S8x2048x2048 .f32 := broadcastInDim S8x2048x2048 ![0, 1, 2] bcast_S1x1x1_S8x2048x2048_0_1_2 v32
  let v34 : FVec F S8x2048x2048 .f32 := mulf v31 v33
  let v35 : FVec F S8x2048x2048 .f32 := broadcastInDim S8x2048x2048 ![0, 1, 2] bcast_S1x1x1_S8x2048x2048_0_1_2 v2
  let v36 : FVec F S8x2048x2048 .f32 := addf v34 v35
  let v37 : FVec F S8x2048x2048 .f32 := broadcastInDim S8x2048x2048 ![0, 1, 2] bcast_S1x1x1_S8x2048x2048_0_1_2 v2
  let v38 : FVec F S8x2048x2048 .f32 := maximumf v37 v36
  v38

def fn_uniform {F : FTy → Type} [FloatOps F] (arg0 : IVec S2 32) (arg1 : FVec F S_ .f32) (arg2 : FVec F S_ .f32) : FVec F S8x2048x2048 .f32 :=
  let v0 : FVec F S_ .f32 := id arg1
  let v1 : FVec F S_ .f32 := id arg2
  let v2 : FVec F S1x1x1 .f32 := broadcastInDim S1x1x1 ![] bcast_S_S1x1x1 v0
  let v3 : FVec F S1x1x1 .f32 := broadcastInDim S1x1x1 ![] bcast_S_S1x1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S8x2048x2048 64 := iotaInDim S8x2048x2048 64 0
  let v9 : IVec S8x2048x2048 64 := iotaInDim S8x2048x2048 64 1
  let v10 : IVec S8x2048x2048 64 := iotaInDim S8x2048x2048 64 2
  let c : IVec S_ 64 := constantI S_ 64 4194304#64
  let v11 : IVec S8x2048x2048 64 := broadcastInDim S8x2048x2048 ![] bcast_S_S8x2048x2048 c
  let v12 : IVec S8x2048x2048 64 := muli v11 v8
  let c_0 : IVec S_ 64 := constantI S_ 64 2048#64
  let v13 : IVec S8x2048x2048 64 := broadcastInDim S8x2048x2048 ![] bcast_S_S8x2048x2048 c_0
  let v14 : IVec S8x2048x2048 64 := muli v13 v9
  let c_1 : IVec S_ 64 := constantI S_ 64 1#64
  let v15 : IVec S8x2048x2048 64 := broadcastInDim S8x2048x2048 ![] bcast_S_S8x2048x2048 c_1
  let v16 : IVec S8x2048x2048 64 := muli v15 v10
  let v17 : IVec S8x2048x2048 64 := addi v12 v14
  let v18 : IVec S8x2048x2048 64 := addi v17 v16
  let c_2 : IVec S_ 64 := constantI S_ 64 32#64
  let v19 : IVec S8x2048x2048 64 := broadcastInDim S8x2048x2048 ![] bcast_S_S8x2048x2048 c_2
  fn_uniform_part1 (F := F) v2 v3 v5 v7 v18 v19

def fn_relu {F : FTy → Type} [FloatOps F] (arg0 : FVec F S8x2048x2048 .f32) : FVec F S8x2048x2048 .f32 :=
  let cst : FVec F S_ .f32 := constant S_ .f32 0x00000000#32
  let v0 : FVec F S8x2048x2048 .f32 := broadcastInDim S8x2048x2048 ![] bcast_S_S8x2048x2048 cst
  let v1 : FVec F S8x2048x2048 .f32 := maximumf arg0 v0
  v1

def fn {F : FTy → Type} [FloatOps F] (main_arg0 : FVec F S8x2048x2048 .f32) : IVec S8x2048x20 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_cst : FVec F S_ .f32 := constant S_ .f32 0x00000000#32
  let main_cst_2 : FVec F S_ .f32 := constant S_ .f32 0x3F800000#32
  let main_v7 : FVec F S8x2048x2048 .f32 := fn_uniform (F := F) main_v6 main_cst main_cst_2
  let main_cst_3 : FVec F S_ .f32 := constant S_ .f32 0x38D1B717#32
  let main_v8 : FVec F S8x2048x2048 .f32 := broadcastInDim S8x2048x2048 ![] bcast_S_S8x2048x2048 main_cst_3
  let main_v9 : FVec F S8x2048x2048 .f32 := mulf main_v7 main_v8
  let main_v10 : FVec F S8x2048x2048 .f32 := fn_relu (F := F) main_arg0
  let main_v11 : FVec F S8x2048x2048 .f32 := addf main_v10 main_v9
  let main_values : FVec F S8x2048x21 .f32 := (fun x => (Host.topK S8x2048x21 2 (FloatOps.cmpfTotal .gt) x sliceFits_S8x2048x2048_S8x2048x21).1) main_v11
  let main_indices : IVec S8x2048x21 32 := (fun x => (Host.topK S8x2048x21 2 (FloatOps.cmpfTotal .gt) x sliceFits_S8x2048x2048_S8x2048x21).2) main_v11
  let main_v12 : FVec F S8x2048x20 .f32 := (extractStridedSlice S8x2048x20 ![0, 0, 1] · slices_S8x2048x21_S8x2048x20_0_0_1) main_values
  let main_v13 : FVec F S8x2048x20 .f32 := (extractStridedSlice S8x2048x20 ![0, 0, 0] · slices_S8x2048x21_S8x2048x20_0_0_0) main_values
  let main_v14 : IVec S8x2048x20 1 := cmpf .olt main_v12 main_v13
  main_v14
-- ==== Kernel.lean ====
abbrev S8x2048x2048 : Shape := ⟨3, ![8, 2048, 2048]⟩
abbrev S_ : Shape := ⟨0, ![]⟩
abbrev S1 : Shape := ⟨1, ![1]⟩
abbrev S2 : Shape := ⟨1, ![2]⟩
abbrev S1x1x1 : Shape := ⟨3, ![1, 1, 1]⟩
abbrev S8x2048x128 : Shape := ⟨3, ![8, 2048, 128]⟩
abbrev S1x256x2048 : Shape := ⟨3, ![1, 256, 2048]⟩
abbrev S1x256x128 : Shape := ⟨3, ![1, 256, 128]⟩
abbrev S256x2048 : Shape := ⟨2, ![256, 2048]⟩
abbrev S256x1 : Shape := ⟨2, ![256, 1]⟩
abbrev S256 : Shape := ⟨1, ![256]⟩
abbrev S256x128 : Shape := ⟨2, ![256, 128]⟩
abbrev S8x2048x1 : Shape := ⟨3, ![8, 2048, 1]⟩
abbrev S8x2048 : Shape := ⟨2, ![8, 2048]⟩
abbrev S8x1x2048 : Shape := ⟨3, ![8, 1, 2048]⟩
abbrev S1x1x2048 : Shape := ⟨3, ![1, 1, 2048]⟩
abbrev S1x256x1 : Shape := ⟨3, ![1, 256, 1]⟩
abbrev S1x2048 : Shape := ⟨2, ![1, 2048]⟩

abbrev nBuf : Space → Nat
  | .hbm => 289
  | .vmem => 20
  | .smem => 0
  | _ => 0

abbrev hbmTy0_0 (i : Nat) : BufTy := match i % 128 with
  | 0 => ⟨S8x2048x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S8x2048x2048, .i64⟩
  | 22 => ⟨S8x2048x2048, .i64⟩
  | 23 => ⟨S8x2048x2048, .i64⟩
  | 24 => ⟨S_, .i64⟩
  | 25 => ⟨S8x2048x2048, .i64⟩
  | 26 => ⟨S8x2048x2048, .i64⟩
  | 27 => ⟨S_, .i64⟩
  | 28 => ⟨S8x2048x2048, .i64⟩
  | 29 => ⟨S8x2048x2048, .i64⟩
  | 30 => ⟨S_, .i64⟩
  | 31 => ⟨S8x2048x2048, .i64⟩
  | 32 => ⟨S8x2048x2048, .i64⟩
  | 33 => ⟨S8x2048x2048, .i64⟩
  | 34 => ⟨S8x2048x2048, .i64⟩
  | 35 => ⟨S_, .i64⟩
  | 36 => ⟨S8x2048x2048, .i64⟩
  | 37 => ⟨S8x2048x2048, .i64⟩
  | 38 => ⟨S8x2048x2048, .i32⟩
  | 39 => ⟨S8x2048x2048, .i32⟩
  | 40 => ⟨S_, .i32⟩
  | 41 => ⟨S_, .i32⟩
  | 42 => ⟨S_, .i32⟩
  | 43 => ⟨S8x2048x2048, .i32⟩
  | 44 => ⟨S8x2048x2048, .i32⟩
  | 45 => ⟨S8x2048x2048, .i32⟩
  | 46 => ⟨S8x2048x2048, .i32⟩
  | 47 => ⟨S8x2048x2048, .i32⟩
  | 48 => ⟨S_, .i32⟩
  | 49 => ⟨S8x2048x2048, .i32⟩
  | 50 => ⟨S8x2048x2048, .i32⟩
  | 51 => ⟨S_, .i32⟩
  | 52 => ⟨S8x2048x2048, .i32⟩
  | 53 => ⟨S8x2048x2048, .i32⟩
  | 54 => ⟨S8x2048x2048, .i32⟩
  | 55 => ⟨S8x2048x2048, .i32⟩
  | 56 => ⟨S8x2048x2048, .i32⟩
  | 57 => ⟨S_, .i32⟩
  | 58 => ⟨S8x2048x2048, .i32⟩
  | 59 => ⟨S8x2048x2048, .i32⟩
  | 60 => ⟨S_, .i32⟩
  | 61 => ⟨S8x2048x2048, .i32⟩
  | 62 => ⟨S8x2048x2048, .i32⟩
  | 63 => ⟨S8x2048x2048, .i32⟩
  | 64 => ⟨S8x2048x2048, .i32⟩
  | 65 => ⟨S8x2048x2048, .i32⟩
  | 66 => ⟨S_, .i32⟩
  | 67 => ⟨S8x2048x2048, .i32⟩
  | 68 => ⟨S8x2048x2048, .i32⟩
  | 69 => ⟨S_, .i32⟩
  | 70 => ⟨S8x2048x2048, .i32⟩
  | 71 => ⟨S8x2048x2048, .i32⟩
  | 72 => ⟨S8x2048x2048, .i32⟩
  | 73 => ⟨S8x2048x2048, .i32⟩
  | 74 => ⟨S8x2048x2048, .i32⟩
  | 75 => ⟨S_, .i32⟩
  | 76 => ⟨S8x2048x2048, .i32⟩
  | 77 => ⟨S8x2048x2048, .i32⟩
  | 78 => ⟨S_, .i32⟩
  | 79 => ⟨S8x2048x2048, .i32⟩
  | 80 => ⟨S8x2048x2048, .i32⟩
  | 81 => ⟨S8x2048x2048, .i32⟩
  | 82 => ⟨S8x2048x2048, .i32⟩
  | 83 => ⟨S8x2048x2048, .i32⟩
  | 84 => ⟨S8x2048x2048, .i32⟩
  | 85 => ⟨S8x2048x2048, .i32⟩
  | 86 => ⟨S8x2048x2048, .i32⟩
  | 87 => ⟨S_, .i32⟩
  | 88 => ⟨S8x2048x2048, .i32⟩
  | 89 => ⟨S8x2048x2048, .i32⟩
  | 90 => ⟨S8x2048x2048, .i32⟩
  | 91 => ⟨S_, .i32⟩
  | 92 => ⟨S8x2048x2048, .i32⟩
  | 93 => ⟨S8x2048x2048, .i32⟩
  | 94 => ⟨S_, .i32⟩
  | 95 => ⟨S8x2048x2048, .i32⟩
  | 96 => ⟨S8x2048x2048, .i32⟩
  | 97 => ⟨S8x2048x2048, .i32⟩
  | 98 => ⟨S8x2048x2048, .i32⟩
  | 99 => ⟨S8x2048x2048, .i32⟩
  | 100 => ⟨S_, .i32⟩
  | 101 => ⟨S8x2048x2048, .i32⟩
  | 102 => ⟨S8x2048x2048, .i32⟩
  | 103 => ⟨S_, .i32⟩
  | 104 => ⟨S8x2048x2048, .i32⟩
  | 105 => ⟨S8x2048x2048, .i32⟩
  | 106 => ⟨S8x2048x2048, .i32⟩
  | 107 => ⟨S8x2048x2048, .i32⟩
  | 108 => ⟨S8x2048x2048, .i32⟩
  | 109 => ⟨S_, .i32⟩
  | 110 => ⟨S8x2048x2048, .i32⟩
  | 111 => ⟨S8x2048x2048, .i32⟩
  | 112 => ⟨S_, .i32⟩
  | 113 => ⟨S8x2048x2048, .i32⟩
  | 114 => ⟨S8x2048x2048, .i32⟩
  | 115 => ⟨S8x2048x2048, .i32⟩
  | 116 => ⟨S8x2048x2048, .i32⟩
  | 117 => ⟨S8x2048x2048, .i32⟩
  | 118 => ⟨S_, .i32⟩
  | 119 => ⟨S8x2048x2048, .i32⟩
  | 120 => ⟨S8x2048x2048, .i32⟩
  | 121 => ⟨S_, .i32⟩
  | 122 => ⟨S8x2048x2048, .i32⟩
  | 123 => ⟨S8x2048x2048, .i32⟩
  | 124 => ⟨S8x2048x2048, .i32⟩
  | 125 => ⟨S8x2048x2048, .i32⟩
  | 126 => ⟨S8x2048x2048, .i32⟩
  | 127 => ⟨S8x2048x2048, .i32⟩
  | _ => ⟨S8x2048x2048, .f32⟩

abbrev hbmTy0_1 (i : Nat) : BufTy := match i % 128 with
  | 0 => ⟨S8x2048x2048, .i32⟩
  | 1 => ⟨S8x2048x2048, .i32⟩
  | 2 => ⟨S_, .i32⟩
  | 3 => ⟨S8x2048x2048, .i32⟩
  | 4 => ⟨S8x2048x2048, .i32⟩
  | 5 => ⟨S8x2048x2048, .i32⟩
  | 6 => ⟨S_, .i32⟩
  | 7 => ⟨S8x2048x2048, .i32⟩
  | 8 => ⟨S8x2048x2048, .i32⟩
  | 9 => ⟨S_, .i32⟩
  | 10 => ⟨S8x2048x2048, .i32⟩
  | 11 => ⟨S8x2048x2048, .i32⟩
  | 12 => ⟨S8x2048x2048, .i32⟩
  | 13 => ⟨S8x2048x2048, .i32⟩
  | 14 => ⟨S8x2048x2048, .i32⟩
  | 15 => ⟨S_, .i32⟩
  | 16 => ⟨S8x2048x2048, .i32⟩
  | 17 => ⟨S8x2048x2048, .i32⟩
  | 18 => ⟨S_, .i32⟩
  | 19 => ⟨S8x2048x2048, .i32⟩
  | 20 => ⟨S8x2048x2048, .i32⟩
  | 21 => ⟨S8x2048x2048, .i32⟩
  | 22 => ⟨S8x2048x2048, .i32⟩
  | 23 => ⟨S8x2048x2048, .i32⟩
  | 24 => ⟨S_, .i32⟩
  | 25 => ⟨S8x2048x2048, .i32⟩
  | 26 => ⟨S8x2048x2048, .i32⟩
  | 27 => ⟨S_, .i32⟩
  | 28 => ⟨S8x2048x2048, .i32⟩
  | 29 => ⟨S8x2048x2048, .i32⟩
  | 30 => ⟨S8x2048x2048, .i32⟩
  | 31 => ⟨S8x2048x2048, .i32⟩
  | 32 => ⟨S8x2048x2048, .i32⟩
  | 33 => ⟨S_, .i32⟩
  | 34 => ⟨S8x2048x2048, .i32⟩
  | 35 => ⟨S8x2048x2048, .i32⟩
  | 36 => ⟨S_, .i32⟩
  | 37 => ⟨S8x2048x2048, .i32⟩
  | 38 => ⟨S8x2048x2048, .i32⟩
  | 39 => ⟨S8x2048x2048, .i32⟩
  | 40 => ⟨S8x2048x2048, .i32⟩
  | 41 => ⟨S8x2048x2048, .i32⟩
  | 42 => ⟨S8x2048x2048, .i32⟩
  | 43 => ⟨S8x2048x2048, .i32⟩
  | 44 => ⟨S8x2048x2048, .i32⟩
  | 45 => ⟨S_, .i32⟩
  | 46 => ⟨S8x2048x2048, .i32⟩
  | 47 => ⟨S8x2048x2048, .i32⟩
  | 48 => ⟨S8x2048x2048, .i32⟩
  | 49 => ⟨S_, .i32⟩
  | 50 => ⟨S8x2048x2048, .i32⟩
  | 51 => ⟨S8x2048x2048, .i32⟩
  | 52 => ⟨S_, .i32⟩
  | 53 => ⟨S8x2048x2048, .i32⟩
  | 54 => ⟨S8x2048x2048, .i32⟩
  | 55 => ⟨S8x2048x2048, .i32⟩
  | 56 => ⟨S8x2048x2048, .i32⟩
  | 57 => ⟨S8x2048x2048, .i32⟩
  | 58 => ⟨S_, .i32⟩
  | 59 => ⟨S8x2048x2048, .i32⟩
  | 60 => ⟨S8x2048x2048, .i32⟩
  | 61 => ⟨S_, .i32⟩
  | 62 => ⟨S8x2048x2048, .i32⟩
  | 63 => ⟨S8x2048x2048, .i32⟩
  | 64 => ⟨S8x2048x2048, .i32⟩
  | 65 => ⟨S8x2048x2048, .i32⟩
  | 66 => ⟨S8x2048x2048, .i32⟩
  | 67 => ⟨S_, .i32⟩
  | 68 => ⟨S8x2048x2048, .i32⟩
  | 69 => ⟨S8x2048x2048, .i32⟩
  | 70 => ⟨S_, .i32⟩
  | 71 => ⟨S8x2048x2048, .i32⟩
  | 72 => ⟨S8x2048x2048, .i32⟩
  | 73 => ⟨S8x2048x2048, .i32⟩
  | 74 => ⟨S8x2048x2048, .i32⟩
  | 75 => ⟨S8x2048x2048, .i32⟩
  | 76 => ⟨S_, .i32⟩
  | 77 => ⟨S8x2048x2048, .i32⟩
  | 78 => ⟨S8x2048x2048, .i32⟩
  | 79 => ⟨S_, .i32⟩
  | 80 => ⟨S8x2048x2048, .i32⟩
  | 81 => ⟨S8x2048x2048, .i32⟩
  | 82 => ⟨S8x2048x2048, .i32⟩
  | 83 => ⟨S8x2048x2048, .i32⟩
  | 84 => ⟨S8x2048x2048, .i32⟩
  | 85 => ⟨S8x2048x2048, .i32⟩
  | 86 => ⟨S8x2048x2048, .i32⟩
  | 87 => ⟨S8x2048x2048, .i32⟩
  | 88 => ⟨S_, .i32⟩
  | 89 => ⟨S8x2048x2048, .i32⟩
  | 90 => ⟨S8x2048x2048, .i32⟩
  | 91 => ⟨S8x2048x2048, .i32⟩
  | 92 => ⟨S_, .i32⟩
  | 93 => ⟨S8x2048x2048, .i32⟩
  | 94 => ⟨S8x2048x2048, .i32⟩
  | 95 => ⟨S_, .i32⟩
  | 96 => ⟨S8x2048x2048, .i32⟩
  | 97 => ⟨S8x2048x2048, .i32⟩
  | 98 => ⟨S8x2048x2048, .i32⟩
  | 99 => ⟨S8x2048x2048, .i32⟩
  | 100 => ⟨S8x2048x2048, .i32⟩
  | 101 => ⟨S_, .i32⟩
  | 102 => ⟨S8x2048x2048, .i32⟩
  | 103 => ⟨S8x2048x2048, .i32⟩
  | 104 => ⟨S_, .i32⟩
  | 105 => ⟨S8x2048x2048, .i32⟩
  | 106 => ⟨S8x2048x2048, .i32⟩
  | 107 => ⟨S8x2048x2048, .i32⟩
  | 108 => ⟨S8x2048x2048, .i32⟩
  | 109 => ⟨S8x2048x2048, .i32⟩
  | 110 => ⟨S_, .i32⟩
  | 111 => ⟨S8x2048x2048, .i32⟩
  | 112 => ⟨S8x2048x2048, .i32⟩
  | 113 => ⟨S_, .i32⟩
  | 114 => ⟨S8x2048x2048, .i32⟩
  | 115 => ⟨S8x2048x2048, .i32⟩
  | 116 => ⟨S8x2048x2048, .i32⟩
  | 117 => ⟨S8x2048x2048, .i32⟩
  | 118 => ⟨S8x2048x2048, .i32⟩
  | 119 => ⟨S_, .i32⟩
  | 120 => ⟨S8x2048x2048, .i32⟩
  | 121 => ⟨S8x2048x2048, .i32⟩
  | 122 => ⟨S_, .i32⟩
  | 123 => ⟨S8x2048x2048, .i32⟩
  | 124 => ⟨S8x2048x2048, .i32⟩
  | 125 => ⟨S8x2048x2048, .i32⟩
  | 126 => ⟨S8x2048x2048, .i32⟩
  | 127 => ⟨S8x2048x2048, .i32⟩
  | _ => ⟨S8x2048x2048, .f32⟩

abbrev hbmTy0_2 (i : Nat) : BufTy := match i % 128 with
  | 0 => ⟨S8x2048x2048, .i32⟩
  | 1 => ⟨S8x2048x2048, .i32⟩
  | 2 => ⟨S8x2048x2048, .i32⟩
  | 3 => ⟨S_, .i32⟩
  | 4 => ⟨S8x2048x2048, .i32⟩
  | 5 => ⟨S8x2048x2048, .i32⟩
  | 6 => ⟨S8x2048x2048, .i32⟩
  | 7 => ⟨S_, .i32⟩
  | 8 => ⟨S8x2048x2048, .i32⟩
  | 9 => ⟨S8x2048x2048, .i32⟩
  | 10 => ⟨S_, .i32⟩
  | 11 => ⟨S8x2048x2048, .i32⟩
  | 12 => ⟨S8x2048x2048, .i32⟩
  | 13 => ⟨S8x2048x2048, .f32⟩
  | 14 => ⟨S_, .f32⟩
  | 15 => ⟨S8x2048x2048, .f32⟩
  | 16 => ⟨S8x2048x2048, .f32⟩
  | 17 => ⟨S1x1x1, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x128, .f32⟩
  | 28 => ⟨S8x2048x128, .f32⟩
  | 29 => ⟨S8x2048x1, .f32⟩
  | 30 => ⟨S8x2048, .f32⟩
  | 31 => ⟨S8x1x2048, .f32⟩
  | 32 => ⟨S8x2048x2048, .f32⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x1x2048, .f32⟩
  | .local _ .vmem, ⟨17, _⟩ => ⟨S1x1x2048, .f32⟩
  | .local _ .vmem, ⟨18, _⟩ => ⟨S1x256x2048, .f32⟩
  | .local _ .vmem, ⟨19, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_cst_3 : Ref sig .tc := ⟨.hbm, 280, rfl⟩
abbrev main_v8 : Ref sig .tc := ⟨.hbm, 281, rfl⟩
abbrev main_v9 : Ref sig .tc := ⟨.hbm, 282, rfl⟩
abbrev main_v10_0 : Ref sig .tc := ⟨.hbm, 283, rfl⟩
abbrev main_v10_1 : Ref sig .tc := ⟨.hbm, 284, rfl⟩
abbrev main_v11 : Ref sig .tc := ⟨.hbm, 285, rfl⟩
abbrev main_v12 : Ref sig .tc := ⟨.hbm, 286, rfl⟩
abbrev main_v13 : Ref sig .tc := ⟨.hbm, 287, rfl⟩
abbrev main_v14 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S8x2048x2048 : Shape := ⟨3, ![8, 2048, 2048]⟩
abbrev S_ : Shape := ⟨0, ![]⟩
abbrev S1 : Shape := ⟨1, ![1]⟩
abbrev S2 : Shape := ⟨1, ![2]⟩
abbrev S1x1x1 : Shape := ⟨3, ![1, 1, 1]⟩
abbrev S8x2048x20 : Shape := ⟨3, ![8, 2048, 20]⟩
abbrev S8 : Shape := ⟨1, ![8]⟩
abbrev S8x1x1 : Shape := ⟨3, ![8, 1, 1]⟩
abbrev S2048 : Shape := ⟨1, ![2048]⟩
abbrev S1x2048x1 : Shape := ⟨3, ![1, 2048, 1]⟩
abbrev S8x2048x20x1 : Shape := ⟨4, ![8, 2048, 20, 1]⟩
abbrev S8x2048x20x3 : Shape := ⟨4, ![8, 2048, 20, 3]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 355
  | .vmem => 0
  | .smem => 0
  | _ => 0

abbrev hbmTy0_0 (i : Nat) : BufTy := match i % 128 with
  | 0 => ⟨S8x2048x2048, .f32⟩
  | 1 => ⟨S_, .f32⟩
  | 2 => ⟨S8x2048x2048, .f32⟩
  | 3 => ⟨S8x2048x2048, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1x1, .f32⟩
  | 19 => ⟨S1x1x1, .f32⟩
  | 20 => ⟨S1, .i32⟩
  | 21 => ⟨S_, .i32⟩
  | 22 => ⟨S1, .i32⟩
  | 23 => ⟨S_, .i32⟩
  | 24 => ⟨S8x2048x2048, .i64⟩
  | 25 => ⟨S8x2048x2048, .i64⟩
  | 26 => ⟨S8x2048x2048, .i64⟩
  | 27 => ⟨S_, .i64⟩
  | 28 => ⟨S8x2048x2048, .i64⟩
  | 29 => ⟨S8x2048x2048, .i64⟩
  | 30 => ⟨S_, .i64⟩
  | 31 => ⟨S8x2048x2048, .i64⟩
  | 32 => ⟨S8x2048x2048, .i64⟩
  | 33 => ⟨S_, .i64⟩
  | 34 => ⟨S8x2048x2048, .i64⟩
  | 35 => ⟨S8x2048x2048, .i64⟩
  | 36 => ⟨S8x2048x2048, .i64⟩
  | 37 => ⟨S8x2048x2048, .i64⟩
  | 38 => ⟨S_, .i64⟩
  | 39 => ⟨S8x2048x2048, .i64⟩
  | 40 => ⟨S8x2048x2048, .i64⟩
  | 41 => ⟨S8x2048x2048, .i32⟩
  | 42 => ⟨S8x2048x2048, .i32⟩
  | 43 => ⟨S_, .i32⟩
  | 44 => ⟨S_, .i32⟩
  | 45 => ⟨S_, .i32⟩
  | 46 => ⟨S8x2048x2048, .i32⟩
  | 47 => ⟨S8x2048x2048, .i32⟩
  | 48 => ⟨S8x2048x2048, .i32⟩
  | 49 => ⟨S8x2048x2048, .i32⟩
  | 50 => ⟨S8x2048x2048, .i32⟩
  | 51 => ⟨S_, .i32⟩
  | 52 => ⟨S8x2048x2048, .i32⟩
  | 53 => ⟨S8x2048x2048, .i32⟩
  | 54 => ⟨S_, .i32⟩
  | 55 => ⟨S8x2048x2048, .i32⟩
  | 56 => ⟨S8x2048x2048, .i32⟩
  | 57 => ⟨S8x2048x2048, .i32⟩
  | 58 => ⟨S8x2048x2048, .i32⟩
  | 59 => ⟨S8x2048x2048, .i32⟩
  | 60 => ⟨S_, .i32⟩
  | 61 => ⟨S8x2048x2048, .i32⟩
  | 62 => ⟨S8x2048x2048, .i32⟩
  | 63 => ⟨S_, .i32⟩
  | 64 => ⟨S8x2048x2048, .i32⟩
  | 65 => ⟨S8x2048x2048, .i32⟩
  | 66 => ⟨S8x2048x2048, .i32⟩
  | 67 => ⟨S8x2048x2048, .i32⟩
  | 68 => ⟨S8x2048x2048, .i32⟩
  | 69 => ⟨S_, .i32⟩
  | 70 => ⟨S8x2048x2048, .i32⟩
  | 71 => ⟨S8x2048x2048, .i32⟩
  | 72 => ⟨S_, .i32⟩
  | 73 => ⟨S8x2048x2048, .i32⟩
  | 74 => ⟨S8x2048x2048, .i32⟩
  | 75 => ⟨S8x2048x2048, .i32⟩
  | 76 => ⟨S8x2048x2048, .i32⟩
  | 77 => ⟨S8x2048x2048, .i32⟩
  | 78 => ⟨S_, .i32⟩
  | 79 => ⟨S8x2048x2048, .i32⟩
  | 80 => ⟨S8x2048x2048, .i32⟩
  | 81 => ⟨S_, .i32⟩
  | 82 => ⟨S8x2048x2048, .i32⟩
  | 83 => ⟨S8x2048x2048, .i32⟩
  | 84 => ⟨S8x2048x2048, .i32⟩
  | 85 => ⟨S8x2048x2048, .i32⟩
  | 86 => ⟨S8x2048x2048, .i32⟩
  | 87 => ⟨S8x2048x2048, .i32⟩
  | 88 => ⟨S8x2048x2048, .i32⟩
  | 89 => ⟨S8x2048x2048, .i32⟩
  | 90 => ⟨S_, .i32⟩
  | 91 => ⟨S8x2048x2048, .i32⟩
  | 92 => ⟨S8x2048x2048, .i32⟩
  | 93 => ⟨S8x2048x2048, .i32⟩
  | 94 => ⟨S_, .i32⟩
  | 95 => ⟨S8x2048x2048, .i32⟩
  | 96 => ⟨S8x2048x2048, .i32⟩
  | 97 => ⟨S_, .i32⟩
  | 98 => ⟨S8x2048x2048, .i32⟩
  | 99 => ⟨S8x2048x2048, .i32⟩
  | 100 => ⟨S8x2048x2048, .i32⟩
  | 101 => ⟨S8x2048x2048, .i32⟩
  | 102 => ⟨S8x2048x2048, .i32⟩
  | 103 => ⟨S_, .i32⟩
  | 104 => ⟨S8x2048x2048, .i32⟩
  | 105 => ⟨S8x2048x2048, .i32⟩
  | 106 => ⟨S_, .i32⟩
  | 107 => ⟨S8x2048x2048, .i32⟩
  | 108 => ⟨S8x2048x2048, .i32⟩
  | 109 => ⟨S8x2048x2048, .i32⟩
  | 110 => ⟨S8x2048x2048, .i32⟩
  | 111 => ⟨S8x2048x2048, .i32⟩
  | 112 => ⟨S_, .i32⟩
  | 113 => ⟨S8x2048x2048, .i32⟩
  | 114 => ⟨S8x2048x2048, .i32⟩
  | 115 => ⟨S_, .i32⟩
  | 116 => ⟨S8x2048x2048, .i32⟩
  | 117 => ⟨S8x2048x2048, .i32⟩
  | 118 => ⟨S8x2048x2048, .i32⟩
  | 119 => ⟨S8x2048x2048, .i32⟩
  | 120 => ⟨S8x2048x2048, .i32⟩
  | 121 => ⟨S_, .i32⟩
  | 122 => ⟨S8x2048x2048, .i32⟩
  | 123 => ⟨S8x2048x2048, .i32⟩
  | 124 => ⟨S_, .i32⟩
  | 125 => ⟨S8x2048x2048, .i32⟩
  | 126 => ⟨S8x2048x2048, .i32⟩
  | 127 => ⟨S8x2048x2048, .i32⟩
  | _ => ⟨S8x2048x2048, .f32⟩

abbrev hbmTy0_1 (i : Nat) : BufTy := match i % 128 with
  | 0 => ⟨S8x2048x2048, .i32⟩
  | 1 => ⟨S8x2048x2048, .i32⟩
  | 2 => ⟨S8x2048x2048, .i32⟩
  | 3 => ⟨S8x2048x2048, .i32⟩
  | 4 => ⟨S8x2048x2048, .i32⟩
  | 5 => ⟨S_, .i32⟩
  | 6 => ⟨S8x2048x2048, .i32⟩
  | 7 => ⟨S8x2048x2048, .i32⟩
  | 8 => ⟨S8x2048x2048, .i32⟩
  | 9 => ⟨S_, .i32⟩
  | 10 => ⟨S8x2048x2048, .i32⟩
  | 11 => ⟨S8x2048x2048, .i32⟩
  | 12 => ⟨S_, .i32⟩
  | 13 => ⟨S8x2048x2048, .i32⟩
  | 14 => ⟨S8x2048x2048, .i32⟩
  | 15 => ⟨S8x2048x2048, .i32⟩
  | 16 => ⟨S8x2048x2048, .i32⟩
  | 17 => ⟨S8x2048x2048, .i32⟩
  | 18 => ⟨S_, .i32⟩
  | 19 => ⟨S8x2048x2048, .i32⟩
  | 20 => ⟨S8x2048x2048, .i32⟩
  | 21 => ⟨S_, .i32⟩
  | 22 => ⟨S8x2048x2048, .i32⟩
  | 23 => ⟨S8x2048x2048, .i32⟩
  | 24 => ⟨S8x2048x2048, .i32⟩
  | 25 => ⟨S8x2048x2048, .i32⟩
  | 26 => ⟨S8x2048x2048, .i32⟩
  | 27 => ⟨S_, .i32⟩
  | 28 => ⟨S8x2048x2048, .i32⟩
  | 29 => ⟨S8x2048x2048, .i32⟩
  | 30 => ⟨S_, .i32⟩
  | 31 => ⟨S8x2048x2048, .i32⟩
  | 32 => ⟨S8x2048x2048, .i32⟩
  | 33 => ⟨S8x2048x2048, .i32⟩
  | 34 => ⟨S8x2048x2048, .i32⟩
  | 35 => ⟨S8x2048x2048, .i32⟩
  | 36 => ⟨S_, .i32⟩
  | 37 => ⟨S8x2048x2048, .i32⟩
  | 38 => ⟨S8x2048x2048, .i32⟩
  | 39 => ⟨S_, .i32⟩
  | 40 => ⟨S8x2048x2048, .i32⟩
  | 41 => ⟨S8x2048x2048, .i32⟩
  | 42 => ⟨S8x2048x2048, .i32⟩
  | 43 => ⟨S8x2048x2048, .i32⟩
  | 44 => ⟨S8x2048x2048, .i32⟩
  | 45 => ⟨S8x2048x2048, .i32⟩
  | 46 => ⟨S8x2048x2048, .i32⟩
  | 47 => ⟨S8x2048x2048, .i32⟩
  | 48 => ⟨S_, .i32⟩
  | 49 => ⟨S8x2048x2048, .i32⟩
  | 50 => ⟨S8x2048x2048, .i32⟩
  | 51 => ⟨S8x2048x2048, .i32⟩
  | 52 => ⟨S_, .i32⟩
  | 53 => ⟨S8x2048x2048, .i32⟩
  | 54 => ⟨S8x2048x2048, .i32⟩
  | 55 => ⟨S_, .i32⟩
  | 56 => ⟨S8x2048x2048, .i32⟩
  | 57 => ⟨S8x2048x2048, .i32⟩
  | 58 => ⟨S8x2048x2048, .i32⟩
  | 59 => ⟨S8x2048x2048, .i32⟩
  | 60 => ⟨S8x2048x2048, .i32⟩
  | 61 => ⟨S_, .i32⟩
  | 62 => ⟨S8x2048x2048, .i32⟩
  | 63 => ⟨S8x2048x2048, .i32⟩
  | 64 => ⟨S_, .i32⟩
  | 65 => ⟨S8x2048x2048, .i32⟩
  | 66 => ⟨S8x2048x2048, .i32⟩
  | 67 => ⟨S8x2048x2048, .i32⟩
  | 68 => ⟨S8x2048x2048, .i32⟩
  | 69 => ⟨S8x2048x2048, .i32⟩
  | 70 => ⟨S_, .i32⟩
  | 71 => ⟨S8x2048x2048, .i32⟩
  | 72 => ⟨S8x2048x2048, .i32⟩
  | 73 => ⟨S_, .i32⟩
  | 74 => ⟨S8x2048x2048, .i32⟩
  | 75 => ⟨S8x2048x2048, .i32⟩
  | 76 => ⟨S8x2048x2048, .i32⟩
  | 77 => ⟨S8x2048x2048, .i32⟩
  | 78 => ⟨S8x2048x2048, .i32⟩
  | 79 => ⟨S_, .i32⟩
  | 80 => ⟨S8x2048x2048, .i32⟩
  | 81 => ⟨S8x2048x2048, .i32⟩
  | 82 => ⟨S_, .i32⟩
  | 83 => ⟨S8x2048x2048, .i32⟩
  | 84 => ⟨S8x2048x2048, .i32⟩
  | 85 => ⟨S8x2048x2048, .i32⟩
  | 86 => ⟨S8x2048x2048, .i32⟩
  | 87 => ⟨S8x2048x2048, .i32⟩
  | 88 => ⟨S8x2048x2048, .i32⟩
  | 89 => ⟨S8x2048x2048, .i32⟩
  | 90 => ⟨S8x2048x2048, .i32⟩
  | 91 => ⟨S_, .i32⟩
  | 92 => ⟨S8x2048x2048, .i32⟩
  | 93 => ⟨S8x2048x2048, .i32⟩
  | 94 => ⟨S8x2048x2048, .i32⟩
  | 95 => ⟨S_, .i32⟩
  | 96 => ⟨S8x2048x2048, .i32⟩
  | 97 => ⟨S8x2048x2048, .i32⟩
  | 98 => ⟨S_, .i32⟩
  | 99 => ⟨S8x2048x2048, .i32⟩
  | 100 => ⟨S8x2048x2048, .i32⟩
  | 101 => ⟨S8x2048x2048, .i32⟩
  | 102 => ⟨S8x2048x2048, .i32⟩
  | 103 => ⟨S8x2048x2048, .i32⟩
  | 104 => ⟨S_, .i32⟩
  | 105 => ⟨S8x2048x2048, .i32⟩
  | 106 => ⟨S8x2048x2048, .i32⟩
  | 107 => ⟨S_, .i32⟩
  | 108 => ⟨S8x2048x2048, .i32⟩
  | 109 => ⟨S8x2048x2048, .i32⟩
  | 110 => ⟨S8x2048x2048, .i32⟩
  | 111 => ⟨S8x2048x2048, .i32⟩
  | 112 => ⟨S8x2048x2048, .i32⟩
  | 113 => ⟨S_, .i32⟩
  | 114 => ⟨S8x2048x2048, .i32⟩
  | 115 => ⟨S8x2048x2048, .i32⟩
  | 116 => ⟨S_, .i32⟩
  | 117 => ⟨S8x2048x2048, .i32⟩
  | 118 => ⟨S8x2048x2048, .i32⟩
  | 119 => ⟨S8x2048x2048, .i32⟩
  | 120 => ⟨S8x2048x2048, .i32⟩
  | 121 => ⟨S8x2048x2048, .i32⟩
  | 122 => ⟨S_, .i32⟩
  | 123 => ⟨S8x2048x2048, .i32⟩
  | 124 => ⟨S8x2048x2048, .i32⟩
  | 125 => ⟨S_, .i32⟩
  | 126 => ⟨S8x2048x2048, .i32⟩
  | 127 => ⟨S8x2048x2048, .i32⟩
  | _ => ⟨S8x2048x2048, .f32⟩

abbrev hbmTy0_2 (i : Nat) : BufTy := match i % 128 with
  | 0 => ⟨S8x2048x2048, .i32⟩
  | 1 => ⟨S8x2048x2048, .i32⟩
  | 2 => ⟨S8x2048x2048, .i32⟩
  | 3 => ⟨S8x2048x2048, .i32⟩
  | 4 => ⟨S8x2048x2048, .i32⟩
  | 5 => ⟨S8x2048x2048, .i32⟩
  | 6 => ⟨S_, .i32⟩
  | 7 => ⟨S8x2048x2048, .i32⟩
  | 8 => ⟨S8x2048x2048, .i32⟩
  | 9 => ⟨S8x2048x2048, .i32⟩
  | 10 => ⟨S_, .i32⟩
  | 11 => ⟨S8x2048x2048, .i32⟩
  | 12 => ⟨S8x2048x2048, .i32⟩
  | 13 => ⟨S_, .i32⟩
  | 14 => ⟨S8x2048x2048, .i32⟩
  | 15 => ⟨S8x2048x2048, .i32⟩
  | 16 => ⟨S8x2048x2048, .f32⟩
  | 17 => ⟨S_, .f32⟩
  | 18 => ⟨S8x2048x2048, .f32⟩
  | 19 => ⟨S8x2048x2048, .f32⟩
  | 20 => ⟨S1x1x1, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x20, .f32⟩
  | 32 => ⟨S8x2048x20, .i32⟩
  | 33 => ⟨S8, .i32⟩
  | 34 => ⟨S8x1x1, .i32⟩
  | 35 => ⟨S2048, .i32⟩
  | 36 => ⟨S1x2048x1, .i32⟩
  | 37 => ⟨S_, .f32⟩
  | 38 => ⟨S8x2048x2048, .f32⟩
  | 39 => ⟨S_, .i32⟩
  | 40 => ⟨S8x1x1, .i32⟩
  | 41 => ⟨S8x1x1, .i1⟩
  | 42 => ⟨S_, .i32⟩
  | 43 => ⟨S8x1x1, .i32⟩
  | 44 => ⟨S8x1x1, .i32⟩
  | 45 => ⟨S8x1x1, .i32⟩
  | 46 => ⟨S_, .i32⟩
  | 47 => ⟨S1x2048x1, .i32⟩
  | 48 => ⟨S1x2048x1, .i1⟩
  | 49 => ⟨S_, .i32⟩
  | 50 => ⟨S1x2048x1, .i32⟩
  | 51 => ⟨S1x2048x1, .i32⟩
  | 52 => ⟨S1x2048x1, .i32⟩
  | 53 => ⟨S_, .i32⟩
  | 54 => ⟨S8x2048x20, .i32⟩
  | 55 => ⟨S8x2048x20, .i1⟩
  | 56 => ⟨S_, .i32⟩
  | 57 => ⟨S8x2048x20, .i32⟩
  | 58 => ⟨S8x2048x20, .i32⟩
  | 59 => ⟨S8x2048x20, .i32⟩
  | 60 => ⟨S8x2048x20, .i32⟩
  | 61 => ⟨S8x2048x20, .i32⟩
  | 62 => ⟨S8x2048x20x1, .i32⟩
  | 63 => ⟨S8x2048x20x1, .i32⟩
  | 64 => ⟨S8x2048x20x1, .i32⟩
  | 65 => ⟨S8x2048x20x3, .i32⟩
  | 66 => ⟨S_, .f32⟩
  | 67 => ⟨S8x2048x20, .f32⟩
  | 68 => ⟨S8x2048x2048, .f32⟩
  | 69 => ⟨S8x2048x2048, .f32⟩
  | 70 => ⟨S2048x2048, .i32⟩
  | 71 => ⟨S2048x2048, .i32⟩
  | 72 => ⟨S_, .i32⟩
  | 73 => ⟨S2048x2048, .i32⟩
  | 74 => ⟨S2048x2048, .i32⟩
  | 75 => ⟨S2048x2048, .i1⟩
  | 76 => ⟨S2048x2048, .f32⟩
  | 77 => ⟨S1x2048x2048, .f32⟩
  | 78 => ⟨S8x2048x2048, .f32⟩
  | 79 => ⟨S8x2048x2048, .f32⟩
  | 80 => ⟨S_, .f32⟩
  | 81 => ⟨S8x2048, .f32⟩
  | 82 => ⟨S_, .f32⟩
  | 83 => ⟨S8x2048, .f32⟩
  | 84 => ⟨S8x2048, .f32⟩
  | 85 => ⟨S8x2048, .f32⟩
  | 86 => ⟨S_, .f32⟩
  | 87 => ⟨S8x2048, .f32⟩
  | 88 => ⟨S8x2048, .i1⟩
  | 89 => ⟨S_, .f32⟩
  | 90 => ⟨S_, .f32⟩
  | 91 => ⟨S8x2048, .f32⟩
  | 92 => ⟨S8x2048, .f32⟩
  | 93 => ⟨S8x2048x1, .f32⟩
  | 94 => ⟨S8x2048x2048, .f32⟩
  | 95 => ⟨S8x2048x2048, .f32⟩
  | 96 => ⟨S8x1x2048, .f32⟩
  | 97 => ⟨S8x2048x2048, .f32⟩
  | 98 => ⟨S8x2048x2048, .f32⟩
  | _ => ⟨S8x2048x2048, .f32⟩

abbrev hbmTy (i : Nat) : BufTy := match i / 128 with
  | 0 => hbmTy0_0 i
  | 1 => hbmTy0_1 i
  | 2 => hbmTy0_2 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_c : Ref sig .tc := ⟨.hbm, 27, rfl⟩
abbrev main_call1_v11 : Ref sig .tc := ⟨.hbm, 28, rfl⟩
abbrev main_call1_v12 : Ref sig .tc := ⟨.hbm, 29, rfl⟩
abbrev main_call1_c_0 : Ref sig .tc := ⟨.hbm, 30, rfl⟩
abbrev main_call1_v13 : Ref sig .tc := ⟨.hbm, 31, rfl⟩
abbrev main_call1_v14 : Ref sig .tc := ⟨.hbm, 32, rfl⟩
abbrev main_call1_c_1 : Ref sig .tc := ⟨.hbm, 33, rfl⟩
abbrev main_call1_v15 : Ref sig .tc := ⟨.hbm, 34, rfl⟩
abbrev main_call1_v16 : Ref sig .tc := ⟨.hbm, 35, rfl⟩
abbrev main_call1_v17 : Ref sig .tc := ⟨.hbm, 36, rfl⟩
abbrev main_call1_v18 : Ref sig .tc := ⟨.hbm, 37, rfl⟩
abbrev main_call1_c_2 : Ref sig .tc := ⟨.hbm, 38, rfl⟩
abbrev main_call1_v19 : Ref sig .tc := ⟨.hbm, 39, rfl⟩
abbrev main_call1_v20 : Ref sig .tc := ⟨.hbm, 40, rfl⟩
abbrev main_call1_v21 : Ref sig .tc := ⟨.hbm, 41, rfl⟩
abbrev main_call1_v22 : Ref sig .tc := ⟨.hbm, 42, rfl⟩
abbrev main_call1_call0_v0 : Ref sig .tc := ⟨.hbm, 43, rfl⟩
abbrev main_call1_call0_c : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_c_0 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_c_1 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_call0_v12 : Ref sig .tc := ⟨.hbm, 58, rfl⟩
abbrev main_call1_call0_v13 : Ref sig .tc := ⟨.hbm, 59, rfl⟩
abbrev main_call1_call0_c_2 : Ref sig .tc := ⟨.hbm, 60, rfl⟩
abbrev main_call1_call0_v14 : Ref sig .tc := ⟨.hbm, 61, rfl⟩
abbrev main_call1_call0_v15 : Ref sig .tc := ⟨.hbm, 62, rfl⟩
abbrev main_call1_call0_c_3 : Ref sig .tc := ⟨.hbm, 63, rfl⟩
abbrev main_call1_call0_v16 : Ref sig .tc := ⟨.hbm, 64, rfl⟩
abbrev main_call1_call0_v17 : Ref sig .tc := ⟨.hbm, 65, rfl⟩
abbrev main_call1_call0_v18 : Ref sig .tc := ⟨.hbm, 66, rfl⟩
abbrev main_call1_call0_v19 : Ref sig .tc := ⟨.hbm, 67, rfl⟩
abbrev main_call1_call0_v20 : Ref sig .tc := ⟨.hbm, 68, rfl⟩
abbrev main_call1_call0_c_4 : Ref sig .tc := ⟨.hbm, 69, rfl⟩
abbrev main_call1_call0_v21 : Ref sig .tc := ⟨.hbm, 70, rfl⟩
abbrev main_call1_call0_v22 : Ref sig .tc := ⟨.hbm, 71, rfl⟩
abbrev main_call1_call0_c_5 : Ref sig .tc := ⟨.hbm, 72, rfl⟩
abbrev main_call1_call0_v23 : Ref sig .tc := ⟨.hbm, 73, rfl⟩
abbrev main_call1_call0_v24 : Ref sig .tc := ⟨.hbm, 74, rfl⟩
abbrev main_call1_call0_v25 : Ref sig .tc := ⟨.hbm, 75, rfl⟩
abbrev main_call1_call0_v26 : Ref sig .tc := ⟨.hbm, 76, rfl⟩
abbrev main_call1_call0_v27 : Ref sig .tc := ⟨.hbm, 77, rfl⟩
abbrev main_call1_call0_c_6 : Ref sig .tc := ⟨.hbm, 78, rfl⟩
abbrev main_call1_call0_v28 : Ref sig .tc := ⟨.hbm, 79, rfl⟩
abbrev main_call1_call0_v29 : Ref sig .tc := ⟨.hbm, 80, rfl⟩
abbrev main_call1_call0_c_7 : Ref sig .tc := ⟨.hbm, 81, rfl⟩
abbrev main_call1_call0_v30 : Ref sig .tc := ⟨.hbm, 82, rfl⟩
abbrev main_call1_call0_v31 : Ref sig .tc := ⟨.hbm, 83, rfl⟩
abbrev main_call1_call0_v32 : Ref sig .tc := ⟨.hbm, 84, rfl⟩
abbrev main_call1_call0_v33 : Ref sig .tc := ⟨.hbm, 85, rfl⟩
abbrev main_call1_call0_v34 : Ref sig .tc := ⟨.hbm, 86, rfl⟩
abbrev main_call1_call0_v35 : Ref sig .tc := ⟨.hbm, 87, rfl⟩
abbrev main_call1_call0_v36 : Ref sig .tc := ⟨.hbm, 88, rfl⟩
abbrev main_call1_call0_v37 : Ref sig .tc := ⟨.hbm, 89, rfl⟩
abbrev main_call1_call0_c_8 : Ref sig .tc := ⟨.hbm, 90, rfl⟩
abbrev main_call1_call0_v38 : Ref sig .tc := ⟨.hbm, 91, rfl⟩
abbrev main_call1_call0_v39 : Ref sig .tc := ⟨.hbm, 92, rfl⟩
abbrev main_call1_call0_v40 : Ref sig .tc := ⟨.hbm, 93, rfl⟩
abbrev main_call1_call0_c_9 : Ref sig .tc := ⟨.hbm, 94, rfl⟩
abbrev main_call1_call0_v41 : Ref sig .tc := ⟨.hbm, 95, rfl⟩
abbrev main_call1_call0_v42 : Ref sig .tc := ⟨.hbm, 96, rfl⟩
abbrev main_call1_call0_c_10 : Ref sig .tc := ⟨.hbm, 97, rfl⟩
abbrev main_call1_call0_v43 : Ref sig .tc := ⟨.hbm, 98, rfl⟩
abbrev main_call1_call0_v44 : Ref sig .tc := ⟨.hbm, 99, rfl⟩
abbrev main_call1_call0_v45 : Ref sig .tc := ⟨.hbm, 100, rfl⟩
abbrev main_call1_call0_v46 : Ref sig .tc := ⟨.hbm, 101, rfl⟩
abbrev main_call1_call0_v47 : Ref sig .tc := ⟨.hbm, 102, rfl⟩
abbrev main_call1_call0_c_11 : Ref sig .tc := ⟨.hbm, 103, rfl⟩
abbrev main_call1_call0_v48 : Ref sig .tc := ⟨.hbm, 104, rfl⟩
abbrev main_call1_call0_v49 : Ref sig .tc := ⟨.hbm, 105, rfl⟩
abbrev main_call1_call0_c_12 : Ref sig .tc := ⟨.hbm, 106, rfl⟩
abbrev main_call1_call0_v50 : Ref sig .tc := ⟨.hbm, 107, rfl⟩
abbrev main_call1_call0_v51 : Ref sig .tc := ⟨.hbm, 108, rfl⟩
abbrev main_call1_call0_v52 : Ref sig .tc := ⟨.hbm, 109, rfl⟩
abbrev main_call1_call0_v53 : Ref sig .tc := ⟨.hbm, 110, rfl⟩
abbrev main_call1_call0_v54 : Ref sig .tc := ⟨.hbm, 111, rfl⟩
abbrev main_call1_call0_c_13 : Ref sig .tc := ⟨.hbm, 112, rfl⟩
abbrev main_call1_call0_v55 : Ref sig .tc := ⟨.hbm, 113, rfl⟩
abbrev main_call1_call0_v56 : Ref sig .tc := ⟨.hbm, 114, rfl⟩
abbrev main_call1_call0_c_14 : Ref sig .tc := ⟨.hbm, 115, rfl⟩
abbrev main_call1_call0_v57 : Ref sig .tc := ⟨.hbm, 116, rfl⟩
abbrev main_call1_call0_v58 : Ref sig .tc := ⟨.hbm, 117, rfl⟩
abbrev main_call1_call0_v59 : Ref sig .tc := ⟨.hbm, 118, rfl⟩
abbrev main_call1_call0_v60 : Ref sig .tc := ⟨.hbm, 119, rfl⟩
abbrev main_call1_call0_v61 : Ref sig .tc := ⟨.hbm, 120, rfl⟩
abbrev main_call1_call0_c_15 : Ref sig .tc := ⟨.hbm, 121, rfl⟩
abbrev main_call1_call0_v62 : Ref sig .tc := ⟨.hbm, 122, rfl⟩
abbrev main_call1_call0_v63 : Ref sig .tc := ⟨.hbm, 123, rfl⟩
abbrev main_call1_call0_c_16 : Ref sig .tc := ⟨.hbm, 124, rfl⟩
abbrev main_call1_call0_v64 : Ref sig .tc := ⟨.hbm, 125, rfl⟩
abbrev main_call1_call0_v65 : Ref sig .tc := ⟨.hbm, 126, rfl⟩
abbrev main_call1_call0_v66 : Ref sig .tc := ⟨.hbm, 127, rfl⟩
abbrev main_call1_call0_v67 : Ref sig .tc := ⟨.hbm, 128, rfl⟩
abbrev main_call1_call0_v68 : Ref sig .tc := ⟨.hbm, 129, rfl⟩
abbrev main_call1_call0_v69 : Ref sig .tc := ⟨.hbm, 130, rfl⟩
abbrev main_call1_call0_v70 : Ref sig .tc := ⟨.hbm, 131, rfl⟩
abbrev main_call1_call0_v71 : Ref sig .tc := ⟨.hbm, 132, rfl⟩
abbrev main_call1_call0_c_17 : Ref sig .tc := ⟨.hbm, 133, rfl⟩
abbrev main_call1_call0_v72 : Ref sig .tc := ⟨.hbm, 134, rfl⟩
abbrev main_call1_call0_v73 : Ref sig .tc := ⟨.hbm, 135, rfl⟩
abbrev main_call1_call0_v74 : Ref sig .tc := ⟨.hbm, 136, rfl⟩
abbrev main_call1_call0_c_18 : Ref sig .tc := ⟨.hbm, 137, rfl⟩
abbrev main_call1_call0_v75 : Ref sig .tc := ⟨.hbm, 138, rfl⟩
abbrev main_call1_call0_v76 : Ref sig .tc := ⟨.hbm, 139, rfl⟩
abbrev main_call1_call0_c_19 : Ref sig .tc := ⟨.hbm, 140, rfl⟩
abbrev main_call1_call0_v77 : Ref sig .tc := ⟨.hbm, 141, rfl⟩
abbrev main_call1_call0_v78 : Ref sig .tc := ⟨.hbm, 142, rfl⟩
abbrev main_call1_call0_v79 : Ref sig .tc := ⟨.hbm, 143, rfl⟩
abbrev main_call1_call0_v80 : Ref sig .tc := ⟨.hbm, 144, rfl⟩
abbrev main_call1_call0_v81 : Ref sig .tc := ⟨.hbm, 145, rfl⟩
abbrev main_call1_call0_c_20 : Ref sig .tc := ⟨.hbm, 146, rfl⟩
abbrev main_call1_call0_v82 : Ref sig .tc := ⟨.hbm, 147, rfl⟩
abbrev main_call1_call0_v83 : Ref sig .tc := ⟨.hbm, 148, rfl⟩
abbrev main_call1_call0_c_21 : Ref sig .tc := ⟨.hbm, 149, rfl⟩
abbrev main_call1_call0_v84 : Ref sig .tc := ⟨.hbm, 150, rfl⟩
abbrev main_call1_call0_v85 : Ref sig .tc := ⟨.hbm, 151, rfl⟩
abbrev main_call1_call0_v86 : Ref sig .tc := ⟨.hbm, 152, rfl⟩
abbrev main_call1_call0_v87 : Ref sig .tc := ⟨.hbm, 153, rfl⟩
abbrev main_call1_call0_v88 : Ref sig .tc := ⟨.hbm, 154, rfl⟩
abbrev main_call1_call0_c_22 : Ref sig .tc := ⟨.hbm, 155, rfl⟩
abbrev main_call1_call0_v89 : Ref sig .tc := ⟨.hbm, 156, rfl⟩
abbrev main_call1_call0_v90 : Ref sig .tc := ⟨.hbm, 157, rfl⟩
abbrev main_call1_call0_c_23 : Ref sig .tc := ⟨.hbm, 158, rfl⟩
abbrev main_call1_call0_v91 : Ref sig .tc := ⟨.hbm, 159, rfl⟩
abbrev main_call1_call0_v92 : Ref sig .tc := ⟨.hbm, 160, rfl⟩
abbrev main_call1_call0_v93 : Ref sig .tc := ⟨.hbm, 161, rfl⟩
abbrev main_call1_call0_v94 : Ref sig .tc := ⟨.hbm, 162, rfl⟩
abbrev main_call1_call0_v95 : Ref sig .tc := ⟨.hbm, 163, rfl⟩
abbrev main_call1_call0_c_24 : Ref sig .tc := ⟨.hbm, 164, rfl⟩
abbrev main_call1_call0_v96 : Ref sig .tc := ⟨.hbm, 165, rfl⟩
abbrev main_call1_call0_v97 : Ref sig .tc := ⟨.hbm, 166, rfl⟩
abbrev main_call1_call0_c_25 : Ref sig .tc := ⟨.hbm, 167, rfl⟩
abbrev main_call1_call0_v98 : Ref sig .tc := ⟨.hbm, 168, rfl⟩
abbrev main_call1_call0_v99 : Ref sig .tc := ⟨.hbm, 169, rfl⟩
abbrev main_call1_call0_v100 : Ref sig .tc := ⟨.hbm, 170, rfl⟩
abbrev main_call1_call0_v101 : Ref sig .tc := ⟨.hbm, 171, rfl⟩
abbrev main_call1_call0_v102 : Ref sig .tc := ⟨.hbm, 172, rfl⟩
abbrev main_call1_call0_v103 : Ref sig .tc := ⟨.hbm, 173, rfl⟩
abbrev main_call1_call0_v104 : Ref sig .tc := ⟨.hbm, 174, rfl⟩
abbrev main_call1_call0_v105 : Ref sig .tc := ⟨.hbm, 175, rfl⟩
abbrev main_call1_call0_c_26 : Ref sig .tc := ⟨.hbm, 176, rfl⟩
abbrev main_call1_call0_v106 : Ref sig .tc := ⟨.hbm, 177, rfl⟩
abbrev main_call1_call0_v107 : Ref sig .tc := ⟨.hbm, 178, rfl⟩
abbrev main_call1_call0_v108 : Ref sig .tc := ⟨.hbm, 179, rfl⟩
abbrev main_call1_call0_c_27 : Ref sig .tc := ⟨.hbm, 180, rfl⟩
abbrev main_call1_call0_v109 : Ref sig .tc := ⟨.hbm, 181, rfl⟩
abbrev main_call1_call0_v110 : Ref sig .tc := ⟨.hbm, 182, rfl⟩
abbrev main_call1_call0_c_28 : Ref sig .tc := ⟨.hbm, 183, rfl⟩
abbrev main_call1_call0_v111 : Ref sig .tc := ⟨.hbm, 184, rfl⟩
abbrev main_call1_call0_v112 : Ref sig .tc := ⟨.hbm, 185, rfl⟩
abbrev main_call1_call0_v113 : Ref sig .tc := ⟨.hbm, 186, rfl⟩
abbrev main_call1_call0_v114 : Ref sig .tc := ⟨.hbm, 187, rfl⟩
abbrev main_call1_call0_v115 : Ref sig .tc := ⟨.hbm, 188, rfl⟩
abbrev main_call1_call0_c_29 : Ref sig .tc := ⟨.hbm, 189, rfl⟩
abbrev main_call1_call0_v116 : Ref sig .tc := ⟨.hbm, 190, rfl⟩
abbrev main_call1_call0_v117 : Ref sig .tc := ⟨.hbm, 191, rfl⟩
abbrev main_call1_call0_c_30 : Ref sig .tc := ⟨.hbm, 192, rfl⟩
abbrev main_call1_call0_v118 : Ref sig .tc := ⟨.hbm, 193, rfl⟩
abbrev main_call1_call0_v119 : Ref sig .tc := ⟨.hbm, 194, rfl⟩
abbrev main_call1_call0_v120 : Ref sig .tc := ⟨.hbm, 195, rfl⟩
abbrev main_call1_call0_v121 : Ref sig .tc := ⟨.hbm, 196, rfl⟩
abbrev main_call1_call0_v122 : Ref sig .tc := ⟨.hbm, 197, rfl⟩
abbrev main_call1_call0_c_31 : Ref sig .tc := ⟨.hbm, 198, rfl⟩
abbrev main_call1_call0_v123 : Ref sig .tc := ⟨.hbm, 199, rfl⟩
abbrev main_call1_call0_v124 : Ref sig .tc := ⟨.hbm, 200, rfl⟩
abbrev main_call1_call0_c_32 : Ref sig .tc := ⟨.hbm, 201, rfl⟩
abbrev main_call1_call0_v125 : Ref sig .tc := ⟨.hbm, 202, rfl⟩
abbrev main_call1_call0_v126 : Ref sig .tc := ⟨.hbm, 203, rfl⟩
abbrev main_call1_call0_v127 : Ref sig .tc := ⟨.hbm, 204, rfl⟩
abbrev main_call1_call0_v128 : Ref sig .tc := ⟨.hbm, 205, rfl⟩
abbrev main_call1_call0_v129 : Ref sig .tc := ⟨.hbm, 206, rfl⟩
abbrev main_call1_call0_c_33 : Ref sig .tc := ⟨.hbm, 207, rfl⟩
abbrev main_call1_call0_v130 : Ref sig .tc := ⟨.hbm, 208, rfl⟩
abbrev main_call1_call0_v131 : Ref sig .tc := ⟨.hbm, 209, rfl⟩
abbrev main_call1_call0_c_34 : Ref sig .tc := ⟨.hbm, 210, rfl⟩
abbrev main_call1_call0_v132 : Ref sig .tc := ⟨.hbm, 211, rfl⟩
abbrev main_call1_call0_v133 : Ref sig .tc := ⟨.hbm, 212, rfl⟩
abbrev main_call1_call0_v134 : Ref sig .tc := ⟨.hbm, 213, rfl⟩
abbrev main_call1_call0_v135 : Ref sig .tc := ⟨.hbm, 214, rfl⟩
abbrev main_call1_call0_v136 : Ref sig .tc := ⟨.hbm, 215, rfl⟩
abbrev main_call1_call0_v137 : Ref sig .tc := ⟨.hbm, 216, rfl⟩
abbrev main_call1_call0_v138 : Ref sig .tc := ⟨.hbm, 217, rfl⟩
abbrev main_call1_call0_v139 : Ref sig .tc := ⟨.hbm, 218, rfl⟩
abbrev main_call1_call0_c_35 : Ref sig .tc := ⟨.hbm, 219, rfl⟩
abbrev main_call1_call0_v140 : Ref sig .tc := ⟨.hbm, 220, rfl⟩
abbrev main_call1_call0_v141 : Ref sig .tc := ⟨.hbm, 221, rfl⟩
abbrev main_call1_call0_v142 : Ref sig .tc := ⟨.hbm, 222, rfl⟩
abbrev main_call1_call0_c_36 : Ref sig .tc := ⟨.hbm, 223, rfl⟩
abbrev main_call1_call0_v143 : Ref sig .tc := ⟨.hbm, 224, rfl⟩
abbrev main_call1_call0_v144 : Ref sig .tc := ⟨.hbm, 225, rfl⟩
abbrev main_call1_call0_c_37 : Ref sig .tc := ⟨.hbm, 226, rfl⟩
abbrev main_call1_call0_v145 : Ref sig .tc := ⟨.hbm, 227, rfl⟩
abbrev main_call1_call0_v146 : Ref sig .tc := ⟨.hbm, 228, rfl⟩
abbrev main_call1_call0_v147 : Ref sig .tc := ⟨.hbm, 229, rfl⟩
abbrev main_call1_call0_v148 : Ref sig .tc := ⟨.hbm, 230, rfl⟩
abbrev main_call1_call0_v149 : Ref sig .tc := ⟨.hbm, 231, rfl⟩
abbrev main_call1_call0_c_38 : Ref sig .tc := ⟨.hbm, 232, rfl⟩
abbrev main_call1_call0_v150 : Ref sig .tc := ⟨.hbm, 233, rfl⟩
abbrev main_call1_call0_v151 : Ref sig .tc := ⟨.hbm, 234, rfl⟩
abbrev main_call1_call0_c_39 : Ref sig .tc := ⟨.hbm, 235, rfl⟩
abbrev main_call1_call0_v152 : Ref sig .tc := ⟨.hbm, 236, rfl⟩
abbrev main_call1_call0_v153 : Ref sig .tc := ⟨.hbm, 237, rfl⟩
abbrev main_call1_call0_v154 : Ref sig .tc := ⟨.hbm, 238, rfl⟩
abbrev main_call1_call0_v155 : Ref sig .tc := ⟨.hbm, 239, rfl⟩
abbrev main_call1_call0_v156 : Ref sig .tc := ⟨.hbm, 240, rfl⟩
abbrev main_call1_call0_c_40 : Ref sig .tc := ⟨.hbm, 241, rfl⟩
abbrev main_call1_call0_v157 : Ref sig .tc := ⟨.hbm, 242, rfl⟩
abbrev main_call1_call0_v158 : Ref sig .tc := ⟨.hbm, 243, rfl⟩
abbrev main_call1_call0_c_41 : Ref sig .tc := ⟨.hbm, 244, rfl⟩
abbrev main_call1_call0_v159 : Ref sig .tc := ⟨.hbm, 245, rfl⟩
abbrev main_call1_call0_v160 : Ref sig .tc := ⟨.hbm, 246, rfl⟩
abbrev main_call1_call0_v161 : Ref sig .tc := ⟨.hbm, 247, rfl⟩
abbrev main_call1_call0_v162 : Ref sig .tc := ⟨.hbm, 248, rfl⟩
abbrev main_call1_call0_v163 : Ref sig .tc := ⟨.hbm, 249, rfl⟩
abbrev main_call1_call0_c_42 : Ref sig .tc := ⟨.hbm, 250, rfl⟩
abbrev main_call1_call0_v164 : Ref sig .tc := ⟨.hbm, 251, rfl⟩
abbrev main_call1_call0_v165 : Ref sig .tc := ⟨.hbm, 252, rfl⟩
abbrev main_call1_call0_c_43 : Ref sig .tc := ⟨.hbm, 253, rfl⟩
abbrev main_call1_call0_v166 : Ref sig .tc := ⟨.hbm, 254, rfl⟩
abbrev main_call1_call0_v167 : Ref sig .tc := ⟨.hbm, 255, rfl⟩
abbrev main_call1_call0_v168 : Ref sig .tc := ⟨.hbm, 256, rfl⟩
abbrev main_call1_call0_v169 : Ref sig .tc := ⟨.hbm, 257, rfl⟩
abbrev main_call1_call0_v170 : Ref sig .tc := ⟨.hbm, 258, rfl⟩
abbrev main_call1_v23_0 : Ref sig .tc := ⟨.hbm, 259, rfl⟩
abbrev main_call1_call0_v172 : Ref sig .tc := ⟨.hbm, 260, rfl⟩
abbrev main_call1_call0_v173 : Ref sig .tc := ⟨.hbm, 261, rfl⟩
abbrev main_call1_call0_c_44 : Ref sig .tc := ⟨.hbm, 262, rfl⟩
abbrev main_call1_call0_v174 : Ref sig .tc := ⟨.hbm, 263, rfl⟩
abbrev main_call1_v23_1 : Ref sig .tc := ⟨.hbm, 264, rfl⟩
abbrev main_call1_v24 : Ref sig .tc := ⟨.hbm, 265, rfl⟩
abbrev main_call1_c_3 : Ref sig .tc := ⟨.hbm, 266, rfl⟩
abbrev main_call1_v25 : Ref sig .tc := ⟨.hbm, 267, rfl⟩
abbrev main_call1_v26 : Ref sig .tc := ⟨.hbm, 268, rfl⟩
abbrev main_call1_c_4 : Ref sig .tc := ⟨.hbm, 269, rfl⟩
abbrev main_call1_v27 : Ref sig .tc := ⟨.hbm, 270, rfl⟩
abbrev main_call1_v28 : Ref sig .tc := ⟨.hbm, 271, rfl⟩
abbrev main_call1_v29 : Ref sig .tc := ⟨.hbm, 272, rfl⟩
abbrev main_call1_cst : Ref sig .tc := ⟨.hbm, 273, rfl⟩
abbrev main_call1_v30 : Ref sig .tc := ⟨.hbm, 274, rfl⟩
abbrev main_call1_v31 : Ref sig .tc := ⟨.hbm, 275, rfl⟩
abbrev main_call1_v32 : Ref sig .tc := ⟨.hbm, 276, rfl⟩
abbrev main_call1_v33 : Ref sig .tc := ⟨.hbm, 277, rfl⟩
abbrev main_call1_v34 : Ref sig .tc := ⟨.hbm, 278, rfl⟩
abbrev main_call1_v35 : Ref sig .tc := ⟨.hbm, 279, rfl⟩
abbrev main_call1_v36 : Ref sig .tc := ⟨.hbm, 280, rfl⟩
abbrev main_call1_v37 : Ref sig .tc := ⟨.hbm, 281, rfl⟩
abbrev main_v8 : Ref sig .tc := ⟨.hbm, 282, rfl⟩
abbrev main_cst_3 : Ref sig .tc := ⟨.hbm, 283, rfl⟩
abbrev main_v9 : Ref sig .tc := ⟨.hbm, 284, rfl⟩
abbrev main_v10 : Ref sig .tc := ⟨.hbm, 285, rfl⟩
abbrev main_v11 : Ref sig .tc := ⟨.hbm, 286, rfl⟩
abbrev main_values : Ref sig .tc := ⟨.hbm, 287, rfl⟩
abbrev main_indices : Ref sig .tc := ⟨.hbm, 288, rfl⟩
abbrev main_v12 : Ref sig .tc := ⟨.hbm, 289, rfl⟩
abbrev main_v13 : Ref sig .tc := ⟨.hbm, 290, rfl⟩
abbrev main_v14 : Ref sig .tc := ⟨.hbm, 291, rfl⟩
abbrev main_v15 : Ref sig .tc := ⟨.hbm, 292, rfl⟩
abbrev main_cst_4 : Ref sig .tc := ⟨.hbm, 293, rfl⟩
abbrev main_v16 : Ref sig .tc := ⟨.hbm, 294, rfl⟩
abbrev main_c_5 : Ref sig .tc := ⟨.hbm, 295, rfl⟩
abbrev main_v17 : Ref sig .tc := ⟨.hbm, 296, rfl⟩
abbrev main_v18 : Ref sig .tc := ⟨.hbm, 297, rfl⟩
abbrev main_c_6 : Ref sig .tc := ⟨.hbm, 298, rfl⟩
abbrev main_v19 : Ref sig .tc := ⟨.hbm, 299, rfl⟩
abbrev main_v20 : Ref sig .tc := ⟨.hbm, 300, rfl⟩
abbrev main_v21 : Ref sig .tc := ⟨.hbm, 301, rfl⟩
abbrev main_c_7 : Ref sig .tc := ⟨.hbm, 302, rfl⟩
abbrev main_v22 : Ref sig .tc := ⟨.hbm, 303, rfl⟩
abbrev main_v23 : Ref sig .tc := ⟨.hbm, 304, rfl⟩
abbrev main_c_8 : Ref sig .tc := ⟨.hbm, 305, rfl⟩
abbrev main_v24 : Ref sig .tc := ⟨.hbm, 306, rfl⟩
abbrev main_v25 : Ref sig .tc := ⟨.hbm, 307, rfl⟩
abbrev main_v26 : Ref sig .tc := ⟨.hbm, 308, rfl⟩
abbrev main_c_9 : Ref sig .tc := ⟨.hbm, 309, rfl⟩
abbrev main_v27 : Ref sig .tc := ⟨.hbm, 310, rfl⟩
abbrev main_v28 : Ref sig .tc := ⟨.hbm, 311, rfl⟩
abbrev main_c_10 : Ref sig .tc := ⟨.hbm, 312, rfl⟩
abbrev main_v29 : Ref sig .tc := ⟨.hbm, 313, rfl⟩
abbrev main_v30 : Ref sig .tc := ⟨.hbm, 314, rfl⟩
abbrev main_v31 : Ref sig .tc := ⟨.hbm, 315, rfl⟩
abbrev main_v32 : Ref sig .tc := ⟨.hbm, 316, rfl⟩
abbrev main_v33 : Ref sig .tc := ⟨.hbm, 317, rfl⟩
abbrev main_v34 : Ref sig .tc := ⟨.hbm, 318, rfl⟩
abbrev main_v35 : Ref sig .tc := ⟨.hbm, 319, rfl⟩
abbrev main_v36 : Ref sig .tc := ⟨.hbm, 320, rfl⟩
abbrev main_v37 : Ref sig .tc := ⟨.hbm, 321, rfl⟩
abbrev main_cst_11 : Ref sig .tc := ⟨.hbm, 322, rfl⟩
abbrev main_v38 : Ref sig .tc := ⟨.hbm, 323, rfl⟩
abbrev main_v39 : Ref sig .tc := ⟨.hbm, 324, rfl⟩
abbrev main_v40 : Ref sig .tc := ⟨.hbm, 325, rfl⟩
abbrev main_v41 : Ref sig .tc := ⟨.hbm, 326, rfl⟩
abbrev main_v42 : Ref sig .tc := ⟨.hbm, 327, rfl⟩
abbrev main_c_12 : Ref sig .tc := ⟨.hbm, 328, rfl⟩
abbrev main_v43 : Ref sig .tc := ⟨.hbm, 329, rfl⟩
abbrev main_v44 : Ref sig .tc := ⟨.hbm, 330, rfl⟩
abbrev main_v45 : Ref sig .tc := ⟨.hbm, 331, rfl⟩
abbrev main_v46 : Ref sig .tc := ⟨.hbm, 332, rfl⟩
abbrev main_v47 : Ref sig .tc := ⟨.hbm, 333, rfl⟩
abbrev main_v48 : Ref sig .tc := ⟨.hbm, 334, rfl⟩
abbrev main_v49 : Ref sig .tc := ⟨.hbm, 335, rfl⟩
abbrev main_cst_13 : Ref sig .tc := ⟨.hbm, 336, rfl⟩
abbrev main_v50 : Ref sig .tc := ⟨.hbm, 337, rfl⟩
abbrev main_cst_14 : Ref sig .tc := ⟨.hbm, 338, rfl⟩
abbrev main_v51 : Ref sig .tc := ⟨.hbm, 339, rfl⟩
abbrev main_v52 : Ref sig .tc := ⟨.hbm, 340, rfl⟩
abbrev main_call2_v0 : Ref sig .tc := ⟨.hbm, 341, rfl⟩
abbrev main_call2_cst : Ref sig .tc := ⟨.hbm, 342, rfl⟩
abbrev main_call2_v1 : Ref sig .tc := ⟨.hbm, 343, rfl⟩
abbrev main_v53 : Ref sig .tc := ⟨.hbm, 344, rfl⟩
abbrev main_cst_15 : Ref sig .tc := ⟨.hbm, 345, rfl⟩
abbrev main_call3_v0 : Ref sig .tc := ⟨.hbm, 346, rfl⟩
abbrev main_call3_v1 : Ref sig .tc := ⟨.hbm, 347, rfl⟩
abbrev main_v54 : Ref sig .tc := ⟨.hbm, 348, rfl⟩
abbrev main_v55 : Ref sig .tc := ⟨.hbm, 349, rfl⟩
abbrev main_v56 : Ref sig .tc := ⟨.hbm, 350, rfl⟩
abbrev main_v57 : Ref sig .tc := ⟨.hbm, 351, rfl⟩
abbrev main_v58 : Ref sig .tc := ⟨.hbm, 352, rfl⟩
abbrev main_v59 : Ref sig .tc := ⟨.hbm, 353, rfl⟩
abbrev main_v60 : Ref sig .tc := ⟨.hbm, 354, rfl⟩

abbrev nD : Nat := 1
abbrev τ : Topo := Topo.v7x

variable {F : FTy → Type} [FloatOps F]
-- ==== Proof.RefRun.lean ====
/- The run of the reference program: a straight line of host operations. -/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.Lib.Quiescent

@[expose] public section

noncomputable section

namespace Cert.Proof.RefRun

open Idealize.ShloMosaic Idealize.ShloMosaic.StableHlo Idealize.SL.Sem Cert.ReferenceIdeal

attribute [local instance] Cert.ReferenceIdeal.Gen.facts

/-- Two straight lines one after the other are the straight line of both lists. -/
theorem isSeq_append {nD : Nat} {τ : Topo} {sig : RefSig} {Val : EltTy → Type} {Λ : Labels}
    {p q : Prog (TpuEff nD τ sig Val Λ .tc) PUnit} {l₁ l₂ : List (HloOp τ sig Val)}
    (hp : IsSeq p l₁) (hq : IsSeq q l₂) : IsSeq (p >>= fun _ => q) (l₁ ++ l₂) := by
  unfold IsSeq at *
  rw [hp, hq, seq_append]

/-- One operation alone is the straight line of that operation. -/
theorem isSeq_single {nD : Nat} {τ : Topo} {sig : RefSig} {Val : EltTy → Type} {Λ : Labels} (op : HloOp τ sig Val) :
    IsSeq (nD := nD) (Λ := Λ) (hlo rfl op fun _ => .ret (⟨⟩ : PUnit)) [op] := rfl

variable {F : FTy → Type} [FloatOps F]

/-- The operations of one call of the rectifier. -/
def reluOps (a : TRef sig ⟨S8x2048x2048, .f32⟩) (φ : fn_relu.Bufs) :
    { ops : List (HloOp τ sig (Elt F)) // IsSeq (fn_relu.body (F := F) a φ) ops } := by
  apply Subtype.mk
  unfold fn_relu.body; hlo_seq

/-- The first quarter of one call of the counter hash. -/
def hashOps0 (a b : TRef sig ⟨S_, .i32⟩) (x y : TRef sig ⟨S8x2048x2048, .i32⟩) (φ : fn_threefry2x32.Bufs) :
    { ops : List (HloOp τ sig (Elt F)) // IsSeq (fn_threefry2x32.body_part0 (F := F) a b x y φ) ops } := by
  apply Subtype.mk
  unfold fn_threefry2x32.body_part0
  repeat (first
    | with_reducible apply IsSeq.cons
    | with_reducible exact IsSeq.nil
    | with_reducible exact isSeq_single _)

/-- The second quarter of one call of the counter hash. -/
def hashOps1 (a b : TRef sig ⟨S_, .i32⟩) (x y : TRef sig ⟨S8x2048x2048, .i32⟩) (φ : fn_threefry2x32.Bufs) :
    { ops : List (HloOp τ sig (Elt F)) // IsSeq (fn_threefry2x32.body_part1 (F := F) a b x y φ) ops } := by
  apply Subtype.mk
  unfold fn_threefry2x32.body_part1
  repeat (first
    | with_reducible apply IsSeq.cons
    | with_reducible exact IsSeq.nil
    | with_reducible exact isSeq_single _)

/-- The third quarter of one call of the counter hash. -/
def hashOps2 (a b : TRef sig ⟨S_, .i32⟩) (x y : TRef sig ⟨S8x2048x2048, .i32⟩) (φ : fn_threefry2x32.Bufs) :
    { ops : List (HloOp τ sig (Elt F)) // IsSeq (fn_threefry2x32.body_part2 (F := F) a b x y φ) ops } := by
  apply Subtype.mk
  unfold fn_threefry2x32.body_part2
  repeat (first
    | with_reducible apply IsSeq.cons
    | with_reducible exact IsSeq.nil
    | with_reducible exact isSeq_single _)

/-- The last quarter of one call of the counter hash. -/
def hashOps3 (a b : TRef sig ⟨S_, .i32⟩) (x y : TRef sig ⟨S8x2048x2048, .i32⟩) (φ : fn_threefry2x32.Bufs) :
    { ops : List (HloOp τ sig (Elt F)) // IsSeq (fn_threefry2x32.body_part3 (F := F) a b x y φ) ops } := by
  apply Subtype.mk
  unfold fn_threefry2x32.body_part3
  repeat (first
    | with_reducible apply IsSeq.cons
    | with_reducible exact IsSeq.nil
    | with_reducible exact isSeq_single _)

/-- One call of the counter hash. -/
def hashOps (a b : TRef sig ⟨S_, .i32⟩) (x y : TRef sig ⟨S8x2048x2048, .i32⟩) (φ : fn_threefry2x32.Bufs) :
    { ops : List (HloOp τ sig (Elt F)) // IsSeq (fn_threefry2x32.body (F := F) a b x y φ) ops } :=
  ⟨(hashOps0 a b x y φ).1 ++ ((hashOps1 a b x y φ).1 ++ ((hashOps2 a b x y φ).1 ++ (hashOps3 a b x y φ).1)),
    isSeq_append (hashOps0 a b x y φ).2 (isSeq_append (hashOps1 a b x y φ).2
      (isSeq_append (hashOps2 a b x y φ).2 (hashOps3 a b x y φ).2))⟩

/-- One call of the uniform generator. -/
def uniformOps (k : TRef sig ⟨S2, .i32⟩) (lo hi : TRef sig ⟨S_, .f32⟩) (φ : fn_uniform.Bufs) :
    { ops : List (HloOp τ sig (Elt F)) // IsSeq (fn_uniform.body (F := F) k lo hi φ) ops } := by
  apply Subtype.mk
  unfold fn_uniform.body
  repeat (first
    | with_reducible apply IsSeq.cons
    | with_reducible exact IsSeq.nil
    | with_reducible exact isSeq_single _
    | (apply isSeq_append ((hashOps _ _ _ _ _).2)))

/-- One call of the test for infinity. -/
def isinfOps (a : TRef sig ⟨S8x2048, .f32⟩) (φ : fn_isinf.Bufs) :
    { ops : List (HloOp τ sig (Elt F)) // IsSeq (fn_isinf.body (F := F) a φ) ops } := by
  apply Subtype.mk
  unfold fn_isinf.body
  repeat (first
    | with_reducible apply IsSeq.cons
    | with_reducible exact IsSeq.nil
    | with_reducible exact isSeq_single _)

/-- One call of the choice by a mask. -/
def whereOps (m : TRef sig ⟨S8x2048, .i1⟩) (z : TRef sig ⟨S_, .f32⟩) (a : TRef sig ⟨S8x2048, .f32⟩) (φ : fn_where.Bufs) :
    { ops : List (HloOp τ sig (Elt F)) // IsSeq (fn_where.body (F := F) m z a φ) ops } := by
  apply Subtype.mk
  unfold fn_where.body
  repeat (first
    | with_reducible apply IsSeq.cons
    | with_reducible exact IsSeq.nil
    | with_reducible exact isSeq_single _)

/-- The operations of the reference up to the neighbour mask. -/
def mainOps0 : { ops : List (HloOp τ sig (Elt F)) // ∀ d, IsSeq (main_part0 (F := F) d) ops } := by
  apply Subtype.mk
  intro d
  unfold main_part0
  repeat (first
    | with_reducible apply IsSeq.cons
    | with_reducible exact IsSeq.nil
    | with_reducible exact isSeq_single _
    | (apply isSeq_append ((reluOps _ _).2))
    | (apply isSeq_append ((uniformOps _ _ _ _).2)))

/-- The operations of the reference from the neighbour mask on. -/
def mainOps1 : { ops : List (HloOp τ sig (Elt F)) // ∀ d, IsSeq (main_part1 (F := F) d) ops } := by
  apply Subtype.mk
  intro d
  unfold main_part1
  repeat (first
    | with_reducible apply IsSeq.cons
    | with_reducible exact IsSeq.nil
    | with_reducible exact isSeq_single _
    | (apply isSeq_append ((isinfOps _ _).2))
    | (apply isSeq_append ((whereOps _ _ _ _).2)))

/-- The operations of the reference. -/
def mainOps : { ops : List (HloOp τ sig (Elt F)) // ∀ d, IsSeq (main (F := F) d) ops } :=
  ⟨mainOps0.1 ++ mainOps1.1, fun d => isSeq_append (mainOps0.2 d) (mainOps1.2 d)⟩

/-- Every operation of the reference touches the TensorCore's buffers only. -/
theorem mainOps_sub : (mainOps (F := F)).1.Forall fun op => op.bufs ⊆ tcRefs τ sig := by
  simp only [mainOps, mainOps0, mainOps1, reluOps, uniformOps, hashOps, hashOps0, hashOps1, hashOps2, hashOps3,
    isinfOps, whereOps, List.cons_append, List.nil_append, List.append_assoc]
  repeat' (first | exact trivial | (refine ⟨?_, ?_⟩) | simp)

/-- No operation of the reference allocates a buffer. -/
theorem mainOps_fresh : ∀ op ∈ (mainOps (F := F)).1, op.fresh = ∅ := by
  refine List.forall_iff_forall_mem.mp ?_
  simp only [mainOps, mainOps0, mainOps1, reluOps, uniformOps, hashOps, hashOps0, hashOps1, hashOps2, hashOps3,
    isinfOps, whereOps, List.cons_append, List.nil_append, List.append_assoc]
  simp only [List.Forall]
  repeat' constructor

/-- The reference runs: every buffer ends at what the operations leave in it, and every counter is at zero. -/
theorem run (m : (ℓ : Loc nD τ sig) → Buf (Elt F) ℓ) (g : Dev nD → PrngReg) :
    θ_run (defs (F := F)) (onTc (τ := τ) (main (F := F))) ⟨m, fun _ => 0, g⟩ fun r =>
      (∀ (c : Dev nD) (b : Ref sig .tc), r.2.mem ((c.tc : Thread nD τ).loc b)
        = after (mainOps (F := F)).1 (launchContents m c) (Proc.devRef .tc b)) ∧ r.2.sem = fun _ => 0 :=
  θ_run_mono (run_hlo defs main (mainOps (F := F)).2 (by decide) (by decide) mainOps_sub mainOps_fresh m g)
    fun r h => ⟨h, sem_eq_zero_of_no_sems rfl _⟩

/-- The reference's operations leave its argument as it was. -/
theorem arg0_read (V : Valuation τ sig (Elt F)) :
    after (mainOps (F := F)).1 V (Proc.devRef .tc main_arg0) = V (Proc.devRef .tc main_arg0) := by
  after_reads_simp

/-- The reference ends with its argument unchanged and every counter at zero. -/
theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0))
        ∧ r.2.sem = fun _ => 0 :=
  θ_run_mono (run m g) fun r h => ⟨fun c => (h.1 c main_arg0).trans (arg0_read _), h.2⟩

end Cert.Proof.RefRun

end
-- ==== Proof.Row.lean ====
/- One row: the threshold that rounds of "largest entry below" reach, and the degree it gives. -/
module

public import Idealize.ShloMosaic.PureOps.Ideal

@[expose] public section

noncomputable section

namespace Cert.Proof

/-- The largest entry of the row strictly below `t`, minus infinity if there is none. -/
def below {n : ℕ} (x : Fin n → EReal) (t : EReal) : EReal :=
  Finset.univ.fold max ⊥ fun k => if x k < t then x k else ⊥

/-- The threshold after `k` rounds starting from plus infinity. -/
def thr {n : ℕ} (x : Fin n → EReal) (k : ℕ) : EReal := (below x)^[k] ⊤

/-- One plus the sum of the activations `a` whose doped entry in `x` reaches the threshold after twenty rounds. -/
def rowDeg {n : ℕ} (a x : Fin n → EReal) : EReal :=
  1 + ∑ k, if thr x 20 ≤ x k then a k else 0

open Idealize.ShloMosaic

/-- The pattern of minus infinity. -/
theorem ofBits_negInf : Ideal.ofBits .f32 0xFF800000#32 = ⊥ := by simp [Ideal.ofBits, Ideal.ieee]

/-- The pattern of plus infinity. -/
theorem ofBits_posInf : Ideal.ofBits .f32 0x7F800000#32 = ⊤ := by simp [Ideal.ofBits, Ideal.ieee]

/-- The pattern of minus one half. -/
theorem ofBits_negHalf : Ideal.ofBits .f32 0xBF000000#32 = ((-(1 / 2) : ℝ) : EReal) := by
  have hs : BitVec.extractLsb' 31 1 (0xBF000000#32) = 1#1 := by decide
  have he : (BitVec.extractLsb' 23 8 (0xBF000000#32)).toNat = 126 := by decide
  have hf : (BitVec.extractLsb' 0 23 (0xBF000000#32)).toNat = 0 := by decide
  unfold Ideal.ofBits Ideal.ieee
  simp only [hs, he, hf]
  norm_num

end Cert.Proof

end
-- ==== Proof.Rank.lean ====
/- One row: the rounds of "largest entry below" go down the sorted row, and so the entries that reach the twentieth
   round's threshold are the first twenty of the sorted row, where the first twenty-one are strictly falling. -/
module

public import proofs.«01_k».proof.Proof.Row
public import Mathlib.Analysis.SpecialFunctions.Pow.Real

@[expose] public section

noncomputable section

namespace Cert.Proof

open Idealize.ShloMosaic

section Rounds

variable {n : ℕ} {x : Fin n → EReal} {σ : Fin n → Fin n}

/-- The largest entry below `t` is `v`, if `v` is an entry below `t` and no entry below `t` is larger. -/
theorem below_eq (x : Fin n → EReal) (t : EReal) (k : Fin n) (hk : x k < t) (hmax : ∀ l, x l < t → x l ≤ x k) :
    below x t = x k := by
  unfold below
  refine le_antisymm ?_ ?_
  · rw [Finset.fold_max_le]
    refine ⟨bot_le, fun l _ => ?_⟩
    split
    · exact hmax l ‹_›
    · exact bot_le
  · rw [Finset.le_fold_max]
    exact Or.inr ⟨k, Finset.mem_univ _, by rw [if_pos hk]⟩

/-- In a row without plus infinity, sorted by `σ`, the threshold after `j + 1` rounds is the sorted entry `j`, as far
    as the sorted entries strictly fall. -/
theorem thr_succ (hs : Function.Surjective σ) (ha : ∀ i j, i < j → x (σ j) ≤ x (σ i)) (ht : ∀ k, x k ≠ ⊤)
    (j : ℕ) (hj : j < n) (hf : ∀ i (h : i < j), x (σ ⟨i + 1, by omega⟩) < x (σ ⟨i, by omega⟩)) :
    thr x (j + 1) = x (σ ⟨j, hj⟩) := by
  have ha' : ∀ i j, i ≤ j → x (σ j) ≤ x (σ i) := fun i j h =>
    (eq_or_lt_of_le h).elim (fun e => e ▸ le_rfl) (ha i j)
  unfold thr
  induction j with
  | zero =>
    show below x ⊤ = _
    refine below_eq x ⊤ _ (lt_top_iff_ne_top.mpr (ht _)) fun l _ => ?_
    obtain ⟨i, rfl⟩ := hs l
    exact ha' _ _ (Nat.zero_le _)
  | succ j ih =>
    rw [Function.iterate_succ_apply', ih (by omega) fun i h => hf i (by omega)]
    refine below_eq x _ _ (hf j (by omega)) fun l hl => ?_
    obtain ⟨i, rfl⟩ := hs l
    refine ha' _ _ ?_
    by_contra hn
    have : i ≤ ⟨j, by omega⟩ := by
      rw [not_le, Fin.lt_def] at hn
      rw [Fin.le_def]
      show i.val ≤ j
      have : i.val < j + 1 := hn
      omega
    exact absurd (ha' _ _ this) (not_le.mpr hl)

/-- The entries that reach the twentieth threshold are the first twenty of the sorted row. -/
theorem reach_iff (hs : Function.Surjective σ) (ha : ∀ i j, i < j → x (σ j) ≤ x (σ i)) (ht : ∀ k, x k ≠ ⊤) (hn : 21 ≤ n)
    (hf : ∀ i (h : i < 20), x (σ ⟨i + 1, by omega⟩) < x (σ ⟨i, by omega⟩)) (k : Fin n) :
    thr x 20 ≤ x k ↔ ∃ j : Fin 20, σ (j.castLE (by omega)) = k := by
  have ha' : ∀ i j, i ≤ j → x (σ j) ≤ x (σ i) := fun i j h =>
    (eq_or_lt_of_le h).elim (fun e => e ▸ le_rfl) (ha i j)
  rw [thr_succ hs ha ht 19 (by omega) fun i h => hf i (by omega)]
  constructor
  · intro h
    obtain ⟨i, rfl⟩ := hs k
    by_cases hi : i.val < 20
    · exact ⟨⟨i.val, hi⟩, rfl⟩
    · have h1 : x (σ i) ≤ x (σ ⟨20, by omega⟩) := ha' _ _ (by rw [Fin.le_def]; show 20 ≤ i.val; omega)
      exact absurd (h.trans h1) (not_le.mpr (hf 19 (by omega)))
  · rintro ⟨j, rfl⟩
    exact ha' _ _ (by rw [Fin.le_def]; show j.val ≤ 19; omega)

end Rounds

/-- A sum of nonnegative terms one of which is plus infinity is plus infinity. -/
theorem sum_eq_top {n : ℕ} (f : Fin n → EReal) (hf : ∀ k, 0 ≤ f k) (k : Fin n) (hk : f k = ⊤) : ∑ k, f k = ⊤ :=
  top_le_iff.mp (hk ▸ Finset.single_le_sum (fun l _ => hf l) (Finset.mem_univ k))

/-- For a degree of at least one, the power minus one half is the reciprocal square root, and it is not infinite. -/
theorem pow_eq_rsqrt (d : EReal) (hd : 1 ≤ d) :
    Ideal.pow d ((-(1 / 2) : ℝ) : EReal) = Ideal.rsqrt d ∧ max (Ideal.rsqrt d) (-Ideal.rsqrt d) ≠ ⊤ := by
  induction d using EReal.rec with
  | bot => exact absurd hd (by decide)
  | top =>
    have h0 : ¬ (0 : EReal) < ((-(1 / 2) : ℝ) : EReal) := by
      rw [EReal.coe_pos]; norm_num
    have h1 : ¬ ((-(1 / 2) : ℝ) : EReal) = 0 := by
      rw [EReal.coe_eq_zero]; norm_num
    refine ⟨?_, ?_⟩
    · show (if (0 : EReal) < ((-(1 / 2) : ℝ) : EReal) then (⊤ : EReal) else if ((-(1 / 2) : ℝ) : EReal) = 0 then 1 else 0) = 0
      rw [if_neg h0, if_neg h1]
    · show max (0 : EReal) (-0) ≠ ⊤
      simp
  | coe r =>
    have hr : 1 ≤ r := by exact_mod_cast hd
    have e : Ideal.rsqrt (r : EReal) = (((Real.sqrt r)⁻¹ : ℝ) : EReal) := by
      show (if r < 0 then (⊥ : EReal) else if r = 0 then ⊤ else ((Real.sqrt r)⁻¹ : ℝ)) = _
      rw [if_neg (by linarith), if_neg (by linarith)]
    rw [e]
    refine ⟨?_, ?_⟩
    · show ((Real.rpow r (-(1 / 2)) : ℝ) : EReal) = _
      refine congrArg _ ?_
      show r ^ (-(1 / 2) : ℝ) = _
      rw [Real.rpow_neg (by linarith), Real.sqrt_eq_rpow]
    · rw [← EReal.coe_neg, ← EReal.coe_strictMono.monotone.map_max]
      exact EReal.coe_ne_top _

end Cert.Proof

end
-- ==== Proof.Noise.lean ====
/- The doping noise: one fixed array, the same in the kernel, the reference and the precondition. -/
module

public import proofs.«01_k».proof.Proof.Gen.Pre_no_tie
public import Idealize.ShloMosaic.PureOps.Ideal

@[expose] public section

noncomputable section

namespace Cert.Proof

open Idealize.ShloMosaic Cert.Pre_no_tie Cert.Pre_no_tie.Facts

attribute [local instance] Cert.Pre_no_tie.Gen.facts

variable {F : FTy → Type} [FloatOps F]

/-- The two words of the fixed random key, as each program computes them. -/
def key : IVec S2 32 :=
  concatenate S2 0
    [⟨S1, broadcastInDim S1 ![] bcast_S_S1 (Host.shrui (constantI S_ 32 42#32) (constantI S_ 32 32#32))⟩,
     ⟨S1, broadcastInDim S1 ![] bcast_S_S1 (andi (constantI S_ 32 42#32) (constantI S_ 32 4294967295#32))⟩]
    concatenates_S1_S1_S2_d0

/-- The doping noise: the uniform draws for the fixed key, times the printed scale. -/
def noise : FVec F S8x2048x2048 .f32 :=
  mulf (fn_uniform (F := F) key (constant S_ .f32 0x00000000#32) (constant S_ .f32 0x3F800000#32))
    (broadcastInDim S8x2048x2048 ![] bcast_S_S8x2048x2048 (constant S_ .f32 0x38D1B717#32))

/-- The rectified input. -/
def acts (a : FVec F S8x2048x2048 .f32) : FVec F S8x2048x2048 .f32 := fn_relu a

/-- The doped entries: what the selection of the largest twenty looks at. -/
def doped (a : FVec F S8x2048x2048 .f32) : FVec F S8x2048x2048 .f32 := addf (acts a) noise

/-- The precondition's predicate, over the doped entries. -/
theorem pre_eq (a : FVec F S8x2048x2048 .f32) :
    Cert.Pre_no_tie.fn a
      = cmpf .olt
          (extractStridedSlice S8x2048x20 ![0, 0, 1]
            (Host.topK S8x2048x21 2 (FloatOps.cmpfTotal .gt) (doped a) sliceFits_S8x2048x2048_S8x2048x21).1
            slices_S8x2048x21_S8x2048x20_0_0_1)
          (extractStridedSlice S8x2048x20 ![0, 0, 0]
            (Host.topK S8x2048x21 2 (FloatOps.cmpfTotal .gt) (doped a) sliceFits_S8x2048x2048_S8x2048x21).1
            slices_S8x2048x21_S8x2048x20_0_0_0) := rfl

end Cert.Proof

end
-- ==== Proof.RefVal.lean ====
/- What the reference computes, as one function of its argument, and the run that ends with it. -/
module

public import proofs.«01_k».proof.Proof.RefRun
public import proofs.«01_k».proof.Proof.Noise
public import Idealize.ShloMosaic.Lib.Pipeline.Regions

@[expose] public section

noncomputable section

namespace Cert.Proof

open Idealize.ShloMosaic Idealize.ShloMosaic.StableHlo Idealize.SL.Sem Cert.ReferenceIdeal Cert.ReferenceIdeal.Facts₀

attribute [local instance] Cert.ReferenceIdeal.Gen.facts Cert.Pre_no_tie.Gen.facts

variable {F : FTy → Type} [FloatOps F]

/-- An index array with its negative entries wrapped around by `n`. -/
def wrap {s : Shape} (h : S_.BroadcastsInDim s (![] : Fin 0 → Fin s.rank)) (n : BitVec 32) (v : IVec s 32) : IVec s 32 :=
  select (cmpi .slt v (broadcastInDim s ![] h (constantI S_ 32 0#32)))
    (addi v (broadcastInDim s ![] h (constantI S_ 32 n))) v

/-- The batch number of each selected entry. -/
def batchIdx : IVec S8x2048x20x1 32 :=
  broadcastInDim S8x2048x20x1 ![0, 1, 2] bcast_S8x2048x20_S8x2048x20x1_0_1_2
    (broadcastInDim S8x2048x20 ![0, 1, 2] bcast_S8x1x1_S8x2048x20_0_1_2
      (wrap bcast_S_S8x1x1 8#32 (broadcastInDim S8x1x1 ![0] bcast_S8_S8x1x1_0 (iotaInDim S8 32 0))))

/-- The row number of each selected entry. -/
def rowIdx : IVec S8x2048x20x1 32 :=
  broadcastInDim S8x2048x20x1 ![0, 1, 2] bcast_S8x2048x20_S8x2048x20x1_0_1_2
    (broadcastInDim S8x2048x20 ![0, 1, 2] bcast_S1x2048x1_S8x2048x20_0_1_2
      (wrap bcast_S_S1x2048x1 2048#32 (broadcastInDim S1x2048x1 ![1] bcast_S2048_S1x2048x1_1 (iotaInDim S2048 32 0))))

/-- The column number of each selected entry: where the row's largest twenty doped entries stand. -/
def colIdx (x : FVec F S8x2048x2048 .f32) : IVec S8x2048x20x1 32 :=
  broadcastInDim S8x2048x20x1 ![0, 1, 2] bcast_S8x2048x20_S8x2048x20x1_0_1_2
    (wrap bcast_S_S8x2048x20 2048#32
      (Host.topK S8x2048x20 2 (FloatOps.cmpfTotal .gt) x sliceFits_S8x2048x2048_S8x2048x20).2)

/-- The coordinates of the selected entries. -/
def coords (x : FVec F S8x2048x2048 .f32) : IVec S8x2048x20x3 32 :=
  concatenate S8x2048x20x3 3 [⟨S8x2048x20x1, batchIdx⟩, ⟨S8x2048x20x1, rowIdx⟩, ⟨S8x2048x20x1, colIdx x⟩]
    concatenates_S8x2048x20x1_S8x2048x20x1_S8x2048x20x1_S8x2048x20x3_d3

/-- The mask of the selected entries: ones written into zeros. -/
def topMask (x : FVec F S8x2048x2048 .f32) : FVec F S8x2048x2048 .f32 :=
  Host.scatter scatter_S8x2048x2048_S8x2048x20x3_S8x2048x20_n_012_012_3 (fun _ b => b)
    (broadcastInDim S8x2048x2048 ![] bcast_S_S8x2048x2048 (constant S_ .f32 0x00000000#32)) (coords x)
    (broadcastInDim S8x2048x20 ![] bcast_S_S8x2048x20 (constant S_ .f32 0x3F800000#32))

/-- The identity matrix, one copy per batch. -/
def eye : FVec F S8x2048x2048 .f32 :=
  broadcastInDim S8x2048x2048 ![0, 1, 2] bcast_S1x2048x2048_S8x2048x2048_0_1_2
    (broadcastInDim S1x2048x2048 ![1, 2] bcast_S2048x2048_S1x2048x2048_1_2
      (uitofp .f32 (cmpi .eq (addi (iotaInDim S2048x2048 32 0)
        (broadcastInDim S2048x2048 ![] bcast_S_S2048x2048 (constantI S_ 32 0#32))) (iotaInDim S2048x2048 32 1))))

/-- The adjacency with loops: the selected activations plus the identity. -/
def adjacency (a : FVec F S8x2048x2048 .f32) : FVec F S8x2048x2048 .f32 :=
  addf (mulf (acts a) (topMask (doped a))) eye

/-- The degree of each row to the power minus one half. -/
def degPow (a : FVec F S8x2048x2048 .f32) : FVec F S8x2048 .f32 :=
  Host.powf (Host.reduceAdd (adjacency a) (constant S_ .f32 0x00000000#32) reducesTo_S8x2048x2048_S8x2048_d2 h_S_)
    (broadcastInDim S8x2048 ![] bcast_S_S8x2048 (constant S_ .f32 0xBF000000#32))

/-- The row factors: the power of the degree, zero where that is infinite. -/
def degInv (a : FVec F S8x2048x2048 .f32) : FVec F S8x2048 .f32 :=
  select (cmpf .oeq (Host.absf (degPow a)) (broadcastInDim S8x2048 ![] bcast_S_S8x2048 (constant S_ .f32 0x7F800000#32)))
    (broadcastInDim S8x2048 ![] bcast_S_S8x2048 (constant S_ .f32 0x00000000#32)) (degPow a)

/-- The reference's result: the adjacency scaled by the factors of its row and its column. -/
def refOut (a : FVec F S8x2048x2048 .f32) : FVec F S8x2048x2048 .f32 :=
  mulf
    (mulf
      (broadcastInDim S8x2048x2048 ![0, 1, 2] bcast_S8x2048x1_S8x2048x2048_0_1_2
        (broadcastInDim S8x2048x1 ![0, 1] bcast_S8x2048_S8x2048x1_0_1 (degInv a)))
      (adjacency a))
    (broadcastInDim S8x2048x2048 ![0, 1, 2] bcast_S8x1x2048_S8x2048x2048_0_1_2
      (broadcastInDim S8x1x2048 ![0, 2] bcast_S8x2048_S8x1x2048_0_2 (degInv a)))

namespace RefRun

/-- The coordinates depend on their three columns only. -/
theorem coords_congr {b b' r r' k k' : IVec S8x2048x20x1 32} (hb : b = b') (hr : r = r') (hk : k = k') :
    concatenate S8x2048x20x3 3 [⟨S8x2048x20x1, b⟩, ⟨S8x2048x20x1, r⟩, ⟨S8x2048x20x1, k⟩]
        concatenates_S8x2048x20x1_S8x2048x20x1_S8x2048x20x1_S8x2048x20x3_d3
      = concatenate S8x2048x20x3 3 [⟨S8x2048x20x1, b'⟩, ⟨S8x2048x20x1, r'⟩, ⟨S8x2048x20x1, k'⟩]
        concatenates_S8x2048x20x1_S8x2048x20x1_S8x2048x20x1_S8x2048x20x3_d3 := by
  subst hb hr hk; rfl

/-- The batch numbers, before the coordinates are put together. -/
theorem batch_read (V : Valuation τ sig (Elt F)) :
    upto (mainOps (F := F)).1 V 320 (Proc.devRef .tc main_v34) = batchIdx := by
  after_reads_simp
  chain_rfl

/-- The row numbers, before the coordinates are put together. -/
theorem row_read (V : Valuation τ sig (Elt F)) :
    upto (mainOps (F := F)).1 V 320 (Proc.devRef .tc main_v35) = rowIdx := by
  after_reads_simp
  chain_rfl

set_option maxHeartbeats 4000000 in
/-- The column numbers, before the coordinates are put together. -/
theorem col_read (V : Valuation τ sig (Elt F)) :
    upto (mainOps (F := F)).1 V 320 (Proc.devRef .tc main_v36) = colIdx (doped (V (Proc.devRef .tc main_arg0))) := by
  after_reads_simp
  chain_rfl

/-- The reference's operations leave its result in the result array. -/
theorem out_read (V : Valuation τ sig (Elt F)) :
    after (mainOps (F := F)).1 V (Proc.devRef .tc main_v60) = refOut (V (Proc.devRef .tc main_arg0)) := by
  after_reads_simp
  simp only [Matrix.cons_val]
  rw [coords_congr (batch_read V) (row_read V) (col_read V)]
  chain_rfl

/-- The reference runs and ends with its result, its argument unchanged. -/
theorem out_run (m : (ℓ : Loc nD τ sig) → Buf (Elt F) ℓ) (g : Dev nD → PrngReg) :
    θ_run (defs (F := F)) (onTc (τ := τ) (main (F := F))) ⟨m, fun _ => 0, g⟩ fun r =>
      ∀ c : Dev nD, r.2.mem ((c.tc : Thread nD τ).loc main_v60) = refOut (m ((c.tc : Thread nD τ).loc main_arg0))
        ∧ r.2.mem ((c.tc : Thread nD τ).loc main_arg0) = m ((c.tc : Thread nD τ).loc main_arg0) :=
  θ_run_mono (run m g) fun r h c =>
    ⟨(h.1 c main_v60).trans (out_read _), (h.1 c main_arg0).trans (arg0_read _)⟩

end RefRun

end Cert.Proof

end
-- ==== Proof.Sel.lean ====
/- The selection of a row's largest entries: the order a stable descending sort puts the row in, and where the
   reference's mask of the largest twenty is one. -/
module

public import proofs.«01_k».proof.Proof.RefVal
public import Idealize.ShloMosaic.Lib.Pointwise
public import Idealize.ShloMosaic.Lib.IdealHost
public import Idealize.ShloMosaic.Lib.SortFacts
public import Idealize.ShloMosaic.Lib.Routing.OpsSet

@[expose] public section

noncomputable section

namespace Cert.Proof

open Idealize.ShloMosaic Cert.ReferenceIdeal Cert.ReferenceIdeal.Facts₀

attribute [local instance] Cert.ReferenceIdeal.Gen.facts Cert.Pre_no_tie.Gen.facts

/-- Position `k` of the row's stable descending sort: the place it comes from. -/
def order {n : ℕ} (x : Fin n → EReal) : Fin n → Fin n :=
  sortedFrom fun k k' => FloatOps.cmpfTotal (F := Ideal) (φ := .f32) .gt (x k) (x k') == 1#1

/-- The sort's comparison is the order of the entries. -/
theorem gt_eq (x y : EReal) :
    (FloatOps.cmpfTotal (F := Ideal) (φ := .f32) .gt x y == 1#1) = decide (y < x) := by
  show (BitVec.ofBool (decide (y < x)) == 1#1) = _
  by_cases h : y < x <;> simp [h]

/-- Later in the order is never larger. -/
theorem order_anti {n : ℕ} (x : Fin n → EReal) {i j : Fin n} (h : i < j) : x (order x j) ≤ x (order x i) := by
  have := sortedFrom_noInversion (fun k k' => decide (x k' < x k))
    (fun k k' => FloatOps.cmpfTotal (F := Ideal) (φ := .f32) .gt (x k) (x k') == 1#1)
    (fun a b hab => by simp only [gt_eq, decide_eq_true_eq] at hab; simpa using hab.le)
    (fun a b hab => by simp only [gt_eq]; exact hab)
    (fun a b c hab hbc => by simp only [decide_eq_false_iff_not, not_lt] at *; exact hab.trans hbc) i j h
  exact not_lt.mp (of_decide_eq_false this)

/-- Every place stands somewhere in the order. -/
theorem order_bijective {n : ℕ} (x : Fin n → EReal) : Function.Bijective (order x) :=
  ⟨sortedFrom_injective _, sortedFrom_surjective _⟩

/-- Place `k` of the row through `(b, i)`. -/
theorem along_ix3 (b : Fin 8) (i j k : Fin 2048) :
    Shape.Idx.along (s := S8x2048x2048) (ix3 b i j) (2 : Fin 3) k = ix3 b i k := by
  funext a
  fin_cases a <;> rfl

/-- The sort of an array's rows, one of its two results at a place: the place it comes from is the order's. -/
theorem sort2_apply {α : Type} (x : FVec Ideal S8x2048x2048 .f32) (y : S8x2048x2048.Idx → α) (b : Fin 8) (i j : Fin 2048) :
    (Host.sort2 S8x2048x2048 2 (fun l r => FloatOps.cmpfTotal (F := Ideal) (φ := .f32) .gt l.1 r.1) x y).1 (ix3 b i j)
        = x (ix3 b i (order (fun k => x (ix3 b i k)) j))
      ∧ (Host.sort2 S8x2048x2048 2 (fun l r => FloatOps.cmpfTotal (F := Ideal) (φ := .f32) .gt l.1 r.1) x y).2 (ix3 b i j)
        = y (ix3 b i (order (fun k => x (ix3 b i k)) j)) := by
  have e := fun k => congrArg x (along_ix3 b i j k)
  have e' : sortedFrom (fun k k' => FloatOps.cmpfTotal (F := Ideal) (φ := .f32) .gt
      (x (Shape.Idx.along (s := S8x2048x2048) (ix3 b i j) (2 : Fin 3) k))
      (x (Shape.Idx.along (s := S8x2048x2048) (ix3 b i j) (2 : Fin 3) k')) == 1#1) j
      = order (fun k => x (ix3 b i k)) j := by
    refine congrArg (fun r => sortedFrom r j) (funext₂ fun k k' => ?_)
    exact congrArg₂ (fun u v : EReal => FloatOps.cmpfTotal (F := Ideal) (φ := .f32) .gt u v == 1#1) (e k) (e k')
  exact ⟨(congrArg x (along_ix3 b i j _)).trans (congrArg (fun k => x (ix3 b i k)) e'),
    (congrArg y (along_ix3 b i j _)).trans (congrArg (fun k => y (ix3 b i k)) e')⟩

/-- A slice of the rows' beginnings reads the array at the same place. -/
theorem slice_ix3 {α : Type} {K : ℕ} (hK : K ≤ 2048) (h : S8x2048x2048.Slices (fun _ => 0) ⟨3, ![8, 2048, K]⟩)
    (x : S8x2048x2048.Idx → α) (b : Fin 8) (i : Fin 2048) (j : Fin K) :
    extractStridedSlice ⟨3, ![8, 2048, K]⟩ (fun _ => 0) x h (ix3 b i j) = x (ix3 b i (j.castLE hK)) := by
  refine congrArg x (funext fun a => Fin.ext ?_)
  fin_cases a <;> exact Nat.zero_add _

/-- The selected entries' values. -/
theorem topK_fst {K : ℕ} (hK : K ≤ 2048) (h : S8x2048x2048.Slices (fun _ => 0) ⟨3, ![8, 2048, K]⟩)
    (x : FVec Ideal S8x2048x2048 .f32) (b : Fin 8) (i : Fin 2048) (j : Fin K) :
    (Host.topK ⟨3, ![8, 2048, K]⟩ 2 (FloatOps.cmpfTotal (F := Ideal) (φ := .f32) .gt) x h).1 (ix3 b i j)
      = x (ix3 b i (order (fun k => x (ix3 b i k)) (j.castLE hK))) :=
  (slice_ix3 hK h _ b i j).trans (sort2_apply x (iotaInDim S8x2048x2048 32 (2 : Fin 3)) b i _).1

/-- The selected entries' places. -/
theorem topK_snd {K : ℕ} (hK : K ≤ 2048) (h : S8x2048x2048.Slices (fun _ => 0) ⟨3, ![8, 2048, K]⟩)
    (x : FVec Ideal S8x2048x2048 .f32) (b : Fin 8) (i : Fin 2048) (j : Fin K) :
    (Host.topK ⟨3, ![8, 2048, K]⟩ 2 (FloatOps.cmpfTotal (F := Ideal) (φ := .f32) .gt) x h).2 (ix3 b i j)
      = BitVec.ofNat 32 (order (fun k => x (ix3 b i k)) (j.castLE hK)).val :=
  (slice_ix3 hK h _ b i j).trans (sort2_apply x (iotaInDim S8x2048x2048 32 (2 : Fin 3)) b i _).2

/-- The coordinates written for the selected entry `j` of row `(b, i)`. -/
theorem coords_apply (x : FVec Ideal S8x2048x2048 .f32) (b : Fin 8) (i : Fin 2048) (j : Fin 20) :
    coords x (ix4 b i j 0) = BitVec.ofNat 32 b.val ∧ coords x (ix4 b i j 1) = BitVec.ofNat 32 i.val
      ∧ coords x (ix4 b i j 2)
        = BitVec.ofNat 32 (order (fun k => x (ix3 b i k)) (j.castLE (by decide : 20 ≤ 2048))).val := by
  have hw : ∀ (n : ℕ) (a : BitVec 32), n < 2048 →
      Scalar.select (IntOp.cmpi .slt (BitVec.ofNat 32 n) 0#32) a (BitVec.ofNat 32 n) = BitVec.ofNat 32 n :=
    fun n a hn => Routing.wrap_of_lt _ _ (by rw [BitVec.toNat_ofNat]; omega)
  refine ⟨?_, ?_, ?_⟩
  · pointwise [coords, batchIdx, wrap]
    exact hw _ _ (by omega)
  · pointwise [coords, rowIdx, wrap]
    exact hw _ _ (by omega)
  · pointwise [coords, colIdx, wrap]
    rw [topK_snd (by decide : 20 ≤ 2048)]
    exact hw _ _ (Fin.isLt _)

/-- Where the selected entry `(b, i, j)` is written. -/
theorem lands (idx : IVec S8x2048x20x3 32) (b : Fin 8) (i : Fin 2048) (j : Fin 20) (b' : Fin 8) (i' k : Fin 2048) :
    scatter_S8x2048x2048_S8x2048x20x3_S8x2048x20_n_012_012_3.resultIdx? (ix3 b i j) idx = some (ix3 b' i' k)
      ↔ (idx (ix4 b i j 0)).toInt = b'.val ∧ (idx (ix4 b i j 1)).toInt = i'.val ∧ (idx (ix4 b i j 2)).toInt = k.val := by
  rw [Routing.resultIdx?_eq_some]
  have hs : ∀ a : Fin 3, scatter_S8x2048x2048_S8x2048x20x3_S8x2048x20_n_012_012_3.start (ix3 b i j) idx a
      = (idx (ix4 b i j a)).toInt := by
    intro a
    fin_cases a
    all_goals
      refine congrArg (fun q => (idx q).toInt) (funext fun q => ?_)
      fin_cases q <;> rfl
  have hw : ∀ a : Fin 3, scatter_S8x2048x2048_S8x2048x20x3_S8x2048x20_n_012_012_3.window (ix3 b i j) a = 0 := by
    intro a
    fin_cases a <;> rfl
  constructor
  · intro h
    have h0 := h (0 : Fin 3); have h1 := h (1 : Fin 3); have h2 := h (2 : Fin 3)
    rw [hs, hw] at h0 h1 h2
    exact ⟨by simpa using h0, by simpa using h1, by simpa using h2⟩
  · rintro ⟨h0, h1, h2⟩ a
    rw [hs a, hw a]
    fin_cases a
    · simpa using h0
    · simpa using h1
    · simpa using h2

/-- A small number's word, read signed, is the number. -/
theorem toInt_ofNat (n k : ℕ) (hn : n < 2048) : (BitVec.ofNat 32 n).toInt = (k : Int) ↔ n = k := by
  rw [BitVec.toInt_eq_toNat_cond, BitVec.toNat_ofNat]
  split <;> omega

/-- The mask is one where one of the twenty selected entries of the row stands, zero elsewhere. -/
theorem topMask_apply (x : FVec Ideal S8x2048x2048 .f32) (b : Fin 8) (i k : Fin 2048) :
    topMask x (ix3 b i k)
      = if ∃ j : Fin 20, order (fun k => x (ix3 b i k)) (j.castLE (by decide)) = k then 1 else 0 := by
  have hl : ∀ (b' : Fin 8) (i' : Fin 2048) (j : Fin 20),
      scatter_S8x2048x2048_S8x2048x20x3_S8x2048x20_n_012_012_3.resultIdx? (ix3 b' i' j) (coords x) = some (ix3 b i k)
        ↔ b' = b ∧ i' = i ∧ order (fun k => x (ix3 b' i' k)) (j.castLE (by decide)) = k := by
    intro b' i' j
    obtain ⟨h0, h1, h2⟩ := coords_apply x b' i' j
    rw [lands, h0, h1, h2, toInt_ofNat _ _ (by omega), toInt_ofNat _ _ (by omega), toInt_ofNat _ _ (Fin.isLt _),
      Fin.val_inj, Fin.val_inj, Fin.val_inj]
  unfold topMask
  by_cases h : ∃ j : Fin 20, order (fun k => x (ix3 b i k)) (j.castLE (by decide)) = k
  · rw [if_pos h]
    obtain ⟨j, hj⟩ := h
    refine Routing.scatter_set_hit _ _ _ _ _ _ (fun q _ => ?_) (ix3 b i j) ((hl b i j).mpr ⟨rfl, rfl, hj⟩)
    exact Ideal.ofBits_one_f32
  · rw [if_neg h]
    refine (Routing.scatter_set_miss _ _ _ _ _ fun q hq => ?_).trans Ideal.ofBits_zero_f32
    idx_vars q
    obtain ⟨rfl, rfl, hj⟩ := (hl q0 q1 q2).mp hq
    exact h ⟨q2, hj⟩

end Cert.Proof

end
-- ==== Proof.KerBlock.lean ====
/- What one block of each of the kernel's two passes computes, element by element. -/
module

public import proofs.«01_k».proof.Proof.Gen.KernelIdeal.Frame
public import proofs.«01_k».proof.Proof.Row
public import Idealize.ShloMosaic.Lib.Pointwise
public import Idealize.ShloMosaic.Lib.Pipeline.ValueKit

@[expose] public section

set_option maxRecDepth 16384

noncomputable section

namespace Cert.Proof.KerBlock

open Idealize.ShloMosaic Idealize.SL.Sem Cert.KernelIdeal Cert.KernelIdeal.Gen

attribute [local instance] Cert.KernelIdeal.Gen.facts

variable {F : FTy → Type} [FloatOps F]

/-- One round: per row, the largest entry below the row's threshold. -/
def round (x : FVec F S256x2048 .f32) (t : FVec F S256x1 .f32) : FVec F S256x1 .f32 :=
  shapeCast S256x1
    (multiReduction .maximumf [1] S256
      (select (cmpf .olt x (broadcastTo S256x2048 t Facts₀.broadcasts_S256x1_S256x2048)) x
        (broadcast S256x2048 (Scalar.ofBits .f32 0xFF800000#32)))
      0xFF800000#32 Facts₀.reduces_S256x2048_S256 (.inl rfl) rfl) Facts₀.shapeCasts_S256_S256x1

/-- The threshold after twenty rounds. -/
def rounds (x : FVec F S256x2048 .f32) : FVec F S256x1 .f32 :=
  (round x)^[20] (broadcast S256x1 (Scalar.ofBits .f32 0x7F800000#32))

/-- The printed rounds are the twenty rounds. -/
theorem pay7_eq (x0 x1 : Vec F S1x256x2048 .f32) :
    k0_pay7 (k0_pay9 x0 x1) (k0_pay10 x0 x1) = rounds (k0_pay9 x0 x1) := rfl

/-- A round at one row. -/
theorem round_apply (x : FVec Ideal S256x2048 .f32) (t : FVec Ideal S256x1 .f32) (r : Fin 256) :
    round x t (ix2 r 0) = below (fun k => x (ix2 r k)) (t (ix2 r 0)) := by
  pointwise [round, below, ofBits_negInf]

/-- The twenty rounds at one row. -/
theorem rounds_apply (x : FVec Ideal S256x2048 .f32) (r : Fin 256) :
    rounds x (ix2 r 0) = thr (fun k => x (ix2 r k)) 20 := by
  unfold rounds thr
  generalize 20 = n
  induction n with
  | zero => exact ofBits_posInf
  | succ n ih => rw [Function.iterate_succ_apply', Function.iterate_succ_apply', round_apply, ih]

/-- The activations of a block. -/
theorem pay3_apply (x0 : Vec Ideal S1x256x2048 .f32) (r : Fin 256) (k : Fin 2048) :
    k0_pay3 (View.ld x0 r0_0) (ix2 r k) = max (x0 (ix3 0 r k)) 0 := by
  pointwise [k0_pay3]

/-- The doped entries of a block. -/
theorem pay9_apply (x0 x1 : Vec Ideal S1x256x2048 .f32) (r : Fin 256) (k : Fin 2048) :
    k0_pay9 x0 x1 (ix2 r k) = max (x0 (ix3 0 r k)) 0 + x1 (ix3 0 r k) := by
  pointwise [k0_pay9, k0_pay4, k0_pay3]

/-- The first pass leaves each row's threshold in every lane. -/
theorem out0_2_apply (x0 x1 : Vec Ideal S1x256x2048 .f32) (r : Fin 256) (l : Fin 128) :
    out0_2 x0 x1 (ix3 0 r l)
      = thr (fun k => max (x0 (ix3 0 r k)) 0 + x1 (ix3 0 r k)) 20 := by
  have h : out0_2 x0 x1 = k0_pay1 (rounds (k0_pay9 x0 x1)) := by
    frame_out; rw [pay7_eq]
  rw [h]
  trans rounds (k0_pay9 x0 x1) (ix2 r 0)
  · pointwise [k0_pay1]
  · rw [rounds_apply]; simp only [pay9_apply]

/-- The first pass leaves each row's factor in every lane. -/
theorem out0_3_apply (x0 x1 : Vec Ideal S1x256x2048 .f32) (r : Fin 256) (l : Fin 128) :
    out0_3 x0 x1 (ix3 0 r l)
      = Ideal.rsqrt (rowDeg (fun k => max (x0 (ix3 0 r k)) 0) fun k => max (x0 (ix3 0 r k)) 0 + x1 (ix3 0 r k)) := by
  have h : out0_3 x0 x1 = k0_pay2 (k0_pay3 (View.ld x0 r0_0))
      (cmpf .oge (k0_pay9 x0 x1) (broadcastTo S256x2048 (rounds (k0_pay9 x0 x1)) Facts₀.broadcasts_S256x1_S256x2048)) := by
    frame_out; rfl
  rw [h]
  pointwise [k0_pay2]
  simp only [rounds_apply, pay9_apply, pay3_apply]
  rfl

/-- The printed test for the diagonal, in numbers. -/
theorem diag_apply (b : Fin 8) (r : Fin 256) (k : Fin 2048) :
    Scalar.select (IntOp.cmpi CmpIPredicate.eq
        (IntOp.addi (Scalar.muli (BitVec.ofNat 32 b) 256#32) (BitVec.ofNat 32 r)) (BitVec.ofNat 32 k)) (1 : EReal) 0
      = if b.val * 256 + r.val = k.val then 1 else 0 := by
  have h : (IntOp.addi (Scalar.muli (BitVec.ofNat 32 b) 256#32) (BitVec.ofNat 32 r) = BitVec.ofNat 32 k)
      ↔ b.val * 256 + r.val = k.val := by
    rw [BitVec.toNat_inj.symm]
    simp only [IntOp.addi, Scalar.muli, IntOp.muli, BitVec.toNat_add, BitVec.toNat_mul, BitVec.toNat_ofNat]
    omega
  by_cases e : b.val * 256 + r.val = k.val
  · have hc := (congrArg BitVec.ofBool (beq_iff_eq.mpr (h.mpr e)) :)
    exact (if_pos hc).trans (if_pos e).symm
  · have hc := (congrArg BitVec.ofBool (beq_eq_false_iff_ne.mpr fun q => e (h.mp q)) :)
    exact (if_neg (fun q => absurd (hc.symm.trans q) (by decide))).trans (if_neg e).symm

/-- The second pass leaves the scaled adjacency. -/
theorem out1_5_apply (i : grid1.Coords) (x0 x1 : Vec Ideal S1x256x2048 .f32) (x2 x3 : Vec Ideal S1x256x128 .f32)
    (x4 : Vec Ideal S1x1x2048 .f32) (r : Fin 256) (k : Fin 2048) :
    out1_5 i x0 x1 x2 x3 x4 (ix3 0 r k)
      = ((if x2 (ix3 0 r 0) ≤ max (x0 (ix3 0 r k)) 0 + x1 (ix3 0 r k) then max (x0 (ix3 0 r k)) 0 else 0)
          + (if (i 1).val * 256 + r.val = k.val then 1 else 0)) * x3 (ix3 0 r 0) * x4 (ix3 0 0 k) := by
  have h : out1_5 i x0 x1 x2 x3 x4 = k1_pay1 i (View.ld x0 r1_0) (View.ld x1 r1_0) (View.ld x2 r1_1) (View.ld x3 r1_1) (View.ld x4 r1_2) := by
    frame_out
  rw [h]
  pointwise [k1_pay1]
  rw [diag_apply (i 1) r k]

end Cert.Proof.KerBlock

end
-- ==== Proof.KerArr.lean ====
/- What each of the kernel's two calls leaves in its result arrays, as functions of the arrays it reads. -/
module

public import proofs.«01_k».proof.Proof.KerBlock

@[expose] public section

set_option maxRecDepth 16384

noncomputable section

namespace Cert.Proof.KerArr

open Idealize.ShloMosaic Idealize.ShloMosaic.TcCoe Idealize.SL.Sem Cert.KernelIdeal Cert.KernelIdeal.Gen

attribute [local instance] Cert.KernelIdeal.Gen.facts

/-- A row of activations. -/
def actRow (A : Vec Ideal S8x2048x2048 .f32) (b : Fin 8) (i : Fin 2048) : Fin 2048 → EReal :=
  fun k => max (A (ix3 b i k)) 0

/-- A row of doped entries. -/
def dopRow (A n : Vec Ideal S8x2048x2048 .f32) (b : Fin 8) (i : Fin 2048) : Fin 2048 → EReal :=
  fun k => max (A (ix3 b i k)) 0 + n (ix3 b i k)

/-- The thresholds, one row's value in all its lanes. -/
def thrArr (A n : Vec Ideal S8x2048x2048 .f32) : Vec Ideal S8x2048x128 .f32 :=
  fun i => thr (dopRow A n (i 0) (i 1)) 20

/-- The factors, one row's value in all its lanes. -/
def facArr (A n : Vec Ideal S8x2048x2048 .f32) : Vec Ideal S8x2048x128 .f32 :=
  fun i => Ideal.rsqrt (rowDeg (actRow A (i 0) (i 1)) (dopRow A n (i 0) (i 1)))

/-- The scaled adjacency from the thresholds, the row factors and the column factors. -/
def outArr (A n : Vec Ideal S8x2048x2048 .f32) (t d : Vec Ideal S8x2048x128 .f32) (e : Vec Ideal S8x1x2048 .f32) :
    Vec Ideal S8x2048x2048 .f32 :=
  fun i => ((if t (ix3 (i 0) (i 1) 0) ≤ dopRow A n (i 0) (i 1) (i 2) then actRow A (i 0) (i 1) (i 2) else 0)
      + (if (i 1).val = (i 2).val then 1 else 0)) * d (ix3 (i 0) (i 1) 0) * e (ix3 (i 0) 0 (i 2))

/-- Where the blocks of the first call's windows stand. -/
theorem idx0 : ∀ t : Fin grid0.N,
    win0_0.index t = ![(grid0.coords t 0).val, (grid0.coords t 1).val, 0]
      ∧ win0_1.index t = ![(grid0.coords t 0).val, (grid0.coords t 1).val, 0]
      ∧ win0_2.index t = ![(grid0.coords t 0).val, (grid0.coords t 1).val, 0]
      ∧ win0_3.index t = ![(grid0.coords t 0).val, (grid0.coords t 1).val, 0] := by decide +kernel

/-- Where the blocks of the second call's windows stand. -/
theorem idx1 : ∀ t : Fin grid1.N,
    win1_0.index t = ![(grid1.coords t 0).val, (grid1.coords t 1).val, 0]
      ∧ win1_1.index t = ![(grid1.coords t 0).val, (grid1.coords t 1).val, 0]
      ∧ win1_2.index t = ![(grid1.coords t 0).val, (grid1.coords t 1).val, 0]
      ∧ win1_3.index t = ![(grid1.coords t 0).val, (grid1.coords t 1).val, 0]
      ∧ win1_4.index t = ![(grid1.coords t 0).val, 0, 0]
      ∧ win1_5.index t = ![(grid1.coords t 0).val, (grid1.coords t 1).val, 0] := by decide +kernel

variable (V : (c : Dev nD) → (b : Ref sig .tc) → Buf (Elt Ideal) ((c : Thread nD τ).loc b))

/-- The first call's thresholds. -/
theorem arr0_2 (c : Dev nD) : (dat0 V c).arrAt 2 cfg0.N = thrArr (V c main_arg0) (V c main_v9) := by
  refine (dat0 V c).arrAt_eq_of_covers 2 _ (by decide +kernel) fun t hf y => ?_
  blk_simp
  rw [after0_2]
  idx_vars y
  obtain rfl : y0 = 0 := Subsingleton.elim _ _
  rw [KerBlock.out0_2_apply]
  unfold thrArr dopRow
  refine congrArg (thr · 20) (funext fun k => ?_)
  refine congrArg₂ (fun u v : EReal => max u 0 + v) ?_ ?_
  all_goals blk_ext [iblk0, idx0 t]

/-- The first call's factors. -/
theorem arr0_3 (c : Dev nD) : (dat0 V c).arrAt 3 cfg0.N = facArr (V c main_arg0) (V c main_v9) := by
  refine (dat0 V c).arrAt_eq_of_covers 3 _ (by decide +kernel) fun t hf y => ?_
  blk_simp
  rw [after0_3]
  idx_vars y
  obtain rfl : y0 = 0 := Subsingleton.elim _ _
  rw [KerBlock.out0_3_apply]
  unfold facArr actRow dopRow
  refine congrArg₂ (fun u v => Ideal.rsqrt (rowDeg u v)) (funext fun k => ?_) (funext fun k => ?_)
  · refine congrArg (fun u : EReal => max u 0) ?_
    blk_ext [iblk0, idx0 t]
  · refine congrArg₂ (fun u v : EReal => max u 0 + v) ?_ ?_
    all_goals blk_ext [iblk0, idx0 t]

/-- The second call's blocks, where the output's block has its place at `i`. -/
theorem blk1 (c : Dev nD) (t : Fin grid1.N) (r : Fin 256) (k : Fin 2048) (b : Fin 8) (i : Fin 2048)
    (h0 : b.val = (grid1.coords t 0).val) (h1 : i.val = (grid1.coords t 1).val * 256 + r.val) :
    iblk1 V c 0 t (ix3 0 r k) = V c main_arg0 (ix3 b i k)
      ∧ iblk1 V c 1 t (ix3 0 r k) = V c main_v9 (ix3 b i k)
      ∧ iblk1 V c 2 t (ix3 0 r 0) = V c main_v10_0 (ix3 b i 0)
      ∧ iblk1 V c 3 t (ix3 0 r 0) = V c main_v10_1 (ix3 b i 0)
      ∧ iblk1 V c 4 t (ix3 0 0 k) = V c main_v13 (ix3 b 0 k) := by
  refine ⟨?_, ?_, ?_, ?_, ?_⟩
  all_goals blk_ext [iblk1, idx1 t]

/-- The result of the second call at one place. -/
theorem outArr_apply (A n : Vec Ideal S8x2048x2048 .f32) (t d : Vec Ideal S8x2048x128 .f32)
    (e : Vec Ideal S8x1x2048 .f32) (b : Fin 8) (i k : Fin 2048) :
    outArr A n t d e (ix3 b i k)
      = ((if t (ix3 b i 0) ≤ max (A (ix3 b i k)) 0 + n (ix3 b i k) then max (A (ix3 b i k)) 0 else 0)
          + (if i.val = k.val then 1 else 0)) * d (ix3 b i 0) * e (ix3 b 0 k) := rfl

/-- Where the second call's output block stands. -/
theorem emb1_5 (t : Fin grid1.N) (r : Fin 256) (k : Fin 2048) : ∃ (b : Fin 8) (i : Fin 2048),
    b.val = (grid1.coords t 0).val ∧ i.val = (grid1.coords t 1).val * 256 + r.val
      ∧ ((View.whole main_v14).slice (win1_5.rect t)).emb (ix3 0 r k) = ix3 b i k := by
  refine ⟨⟨(grid1.coords t 0).val, (grid1.coords t 0).isLt⟩,
    ⟨(grid1.coords t 1).val * 256 + r.val, ?_⟩, rfl, rfl, ?_⟩
  · have : (grid1.coords t 1).val < 8 := (grid1.coords t 1).isLt
    omega
  · blk_ext [idx1 t]

/-- The second call's result. -/
theorem arr1_5 (c : Dev nD) : (dat1 V c).arrAt 5 cfg1.N
    = outArr (V c main_arg0) (V c main_v9) (V c main_v10_0) (V c main_v10_1) (V c main_v13) := by
  refine (dat1 V c).arrAt_eq_of_covers 5 _ (by decide +kernel) fun t hf y => ?_
  blk_simp
  rw [after1_5]
  idx_vars y
  obtain rfl : y0 = 0 := Subsingleton.elim _ _
  rw [KerBlock.out1_5_apply]
  obtain ⟨b, i, h0, h1, he⟩ := emb1_5 t y1 y2
  obtain ⟨e0, e1, e2, e3, e4⟩ := blk1 V c t y1 y2 b i h0 h1
  rw [he, outArr_apply, e0, e1, e2, e3, e4, h1]

end Cert.Proof.KerArr

end
-- ==== Proof.KerNoise.lean ====
/- What the host operations before the kernel's first call leave in the noise array. -/
module

public import proofs.«01_k».proof.Proof.Gen.KernelIdeal.Frame
public import proofs.«01_k».proof.Proof.Noise
public import Idealize.ShloMosaic.Lib.StableHlo.RunRead

@[expose] public section

noncomputable section

namespace Cert.Proof.KerNoise

open Idealize.ShloMosaic Idealize.ShloMosaic.StableHlo Idealize.SL.Sem Cert.KernelIdeal Cert.KernelIdeal.Gen

attribute [local instance] Cert.KernelIdeal.Gen.facts Cert.Pre_no_tie.Gen.facts

variable {F : FTy → Type} [FloatOps F]

/-- The generator's operations leave the uniform draws for the key and the bounds they start from. -/
theorem uniform_read (V : Valuation τ sig (Elt F)) :
    after (hostOps0_1 (F := F)) V (Proc.devRef .tc main_v7)
      = Cert.Pre_no_tie.fn_uniform (F := F) (V (Proc.devRef .tc main_v6)) (V (Proc.devRef .tc main_cst))
          (V (Proc.devRef .tc main_cst_2)) := by
  after_reads_simp
  chain_rfl

/-- The first operations leave the key. -/
theorem key_read (V : Valuation τ sig (Elt F)) :
    after (hostOps0 (F := F)) V (Proc.devRef .tc main_v6) = key := by
  after_reads_simp
  chain_rfl

/-- The first operations leave the lower bound zero. -/
theorem lo_read (V : Valuation τ sig (Elt F)) :
    after (hostOps0 (F := F)) V (Proc.devRef .tc main_cst) = constant (F := F) Cert.Pre_no_tie.S_ .f32 0x00000000#32 := by
  after_reads_simp

/-- The first operations leave the upper bound one. -/
theorem hi_read (V : Valuation τ sig (Elt F)) :
    after (hostOps0 (F := F)) V (Proc.devRef .tc main_cst_2) = constant (F := F) Cert.Pre_no_tie.S_ .f32 0x3F800000#32 := by
  after_reads_simp

/-- The last operations leave the draws times the scale. -/
theorem scale_read (V : Valuation τ sig (Elt F)) :
    after (hostOps0_2 (F := F)) V (Proc.devRef .tc main_v9)
      = mulf (F := F) (φ := .f32) (V (Proc.devRef .tc main_v7))
          (broadcastInDim Cert.Pre_no_tie.S8x2048x2048 ![] Cert.Pre_no_tie.Facts.bcast_S_S8x2048x2048
            (constant Cert.Pre_no_tie.S_ .f32 0x38D1B717#32)) := by
  after_reads_simp

variable (m : (ℓ : Loc nD τ sig) → Buf (Elt F) ℓ) (ρ : Dev nD → PrngReg)

/-- At the first call the noise array holds the noise. -/
theorem noise_read (c : Dev nD) : W3 m ρ c (Proc.devRef .tc main_v9) = noise (F := F) := by
  refine (scale_read _).trans ?_
  unfold noise
  refine congrArg (fun u => mulf (F := F) (φ := .f32) u _) ?_
  refine (uniform_read _).trans ?_
  rw [show W1 m ρ c (Proc.devRef .tc main_v6) = key from key_read _,
    show W1 m ρ c (Proc.devRef .tc main_cst) = constant (F := F) Cert.Pre_no_tie.S_ .f32 0x00000000#32 from lo_read _,
    show W1 m ρ c (Proc.devRef .tc main_cst_2) = constant (F := F) Cert.Pre_no_tie.S_ .f32 0x3F800000#32 from hi_read _]

end Cert.Proof.KerNoise

end
-- ==== Proof.KerRun.lean ====
/- The kernel's run: what it leaves in its result array, as one function of its argument. -/
module

public import proofs.«01_k».proof.Proof.KerArr
public import proofs.«01_k».proof.Proof.KerNoise

@[expose] public section

set_option maxRecDepth 16384

noncomputable section

namespace Cert.Proof.KerRun

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts Cert.Pre_no_tie.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found through plain definitions standing in their types
set_option backward.isDefEq.respectTransparency.types false in
/-- The kernel runs and ends with its result array at the contents after the last call, its argument unchanged. -/
theorem run : θ_run defs (onTc (τ := τ) (main (F := F))) ⟨m, fun _ => 0, ρ⟩ fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from
        by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨h c _ (mem_uc main_v14 (by decide)),
      (h c _ (mem_uc main_arg0 (by decide))).trans (W6_main_arg0 m ρ c)⟩)

/-- The operations between the calls turn lane 0 of the factors into a row per batch. -/
theorem col_read (V : Valuation τ sig (Elt F)) (b : Fin 8) (k : Fin 2048) :
    StableHlo.after (hostOps1 (F := F)) V (Proc.devRef .tc main_v13) (ix3 b 0 k)
      = V (Proc.devRef .tc main_v10_1) (ix3 b k 0) := by
  after_reads_simp
  pointwise

end Cert.Proof.KerRun

namespace Cert.Proof

open Idealize.ShloMosaic Idealize.ShloMosaic.TcCoe Cert.KernelIdeal Cert.KernelIdeal.Gen Idealize.SL.Sem

attribute [local instance] Cert.KernelIdeal.Gen.facts Cert.Pre_no_tie.Gen.facts

/-- A row of activations. -/
def actRow (a : FVec Ideal S8x2048x2048 .f32) (b : Fin 8) (i : Fin 2048) : Fin 2048 → EReal :=
  fun k => max (a (ix3 b i k)) 0

/-- A row of doped entries. -/
def dopRow (a : FVec Ideal S8x2048x2048 .f32) (b : Fin 8) (i : Fin 2048) : Fin 2048 → EReal :=
  fun k => actRow a b i k + noise (F := Ideal) (ix3 b i k)

/-- The factor of a row, as the kernel computes it. -/
def kerFac (a : FVec Ideal S8x2048x2048 .f32) (b : Fin 8) (i : Fin 2048) : EReal :=
  Ideal.rsqrt (rowDeg (actRow a b i) (dopRow a b i))

/-- The kernel's result at one place. -/
def kerOut (a : FVec Ideal S8x2048x2048 .f32) (b : Fin 8) (i k : Fin 2048) : EReal :=
  ((if thr (dopRow a b i) 20 ≤ dopRow a b i k then actRow a b i k else 0) + (if i.val = k.val then 1 else 0))
    * kerFac a b i * kerFac a b k

namespace KerRun

variable (m : (ℓ : Loc nD τ sig) → Buf (Elt Ideal) ℓ) (ρ : Dev nD → PrngReg)

/-- The result array after the last call. -/
theorem out_apply (c : Dev nD) (b : Fin 8) (i k : Fin 2048) :
    W6 m ρ c (Proc.devRef .tc main_v14) (ix3 b i k) = kerOut (m ((c.tc : Thread nD τ).loc main_arg0)) b i k := by
  have hA : V3 m ρ c main_arg0 = m ((c.tc : Thread nD τ).loc main_arg0) := W3_args m ρ c main_arg0 (by decide)
  have hn : V3 m ρ c main_v9 = noise (F := Ideal) := KerNoise.noise_read m ρ c
  have hA5 : V5 m ρ c main_arg0 = m ((c.tc : Thread nD τ).loc main_arg0) := W5_args m ρ c main_arg0 (by decide)
  have hn5 : V5 m ρ c main_v9 = noise (F := Ideal) :=
    (W5_of m ρ c main_v9 (by decide)).trans ((W4_of m ρ c main_v9 (by decide)).trans hn)
  have h2 := (W5_of m ρ c main_v10_0 (by decide)).trans
    ((W4_arr m ρ c 2).trans (KerArr.arr0_2 (V3 m ρ) c))
  have h3 := (W4_arr m ρ c 3).trans (KerArr.arr0_3 (V3 m ρ) c)
  have h3' := (W5_of m ρ c main_v10_1 (by decide)).trans h3
  have h4 := (col_read (W4 m ρ c) b k).trans (congrFun h3 _)
  rw [hA, hn] at h2 h3' h4
  refine (congrFun ((W6_arr m ρ c 5).trans (KerArr.arr1_5 (V5 m ρ) c)) _).trans ?_
  rw [KerArr.outArr_apply, hA5, hn5]
  refine congrArg₂ (fun u v : EReal => u * v) (congrArg₂ (fun u v : EReal => u * v)
    (congrArg (fun u : EReal => u + _) ?_) (congrFun h3' _)) h4
  exact congrArg (fun u : EReal => if u ≤ _ then _ else _) (congrFun h2 _)

/-- The kernel runs and ends with its result, its argument unchanged. -/
theorem out_run : θ_run defs (onTc (τ := τ) (main (F := Ideal))) ⟨m, fun _ => 0, ρ⟩ fun r => ∀ c : Dev nD,
      r.2.mem ((c.tc : Thread nD τ).loc main_v14)
        = (fun i => kerOut (m ((c.tc : Thread nD τ).loc main_arg0)) (i 0) (i 1) (i 2))
      ∧ r.2.mem ((c.tc : Thread nD τ).loc main_arg0) = m ((c.tc : Thread nD τ).loc main_arg0) :=
  θ_run_mono (run m ρ) fun r h c => ⟨(h c).1.trans (funext fun i => by
    idx_vars i; exact out_apply m ρ c i0 i1 i2), (h c).2⟩

end KerRun

end Cert.Proof

end
-- ==== Proof.RefAt.lean ====
/- The reference's result and the precondition, read at one place. -/
module

public import proofs.«01_k».proof.Proof.Sel
public import proofs.«01_k».proof.Proof.KerRun

@[expose] public section

noncomputable section

namespace Cert.Proof

open Idealize.ShloMosaic Cert.ReferenceIdeal Cert.ReferenceIdeal.Facts₀

attribute [local instance] Cert.ReferenceIdeal.Gen.facts Cert.Pre_no_tie.Gen.facts

/-- The activations at one place. -/
theorem acts_apply (a : FVec Ideal S8x2048x2048 .f32) (b : Fin 8) (i k : Fin 2048) :
    acts a (ix3 b i k) = actRow a b i k := by
  pointwise [acts, Cert.Pre_no_tie.fn_relu, actRow]

/-- The doped entries at one place. -/
theorem doped_apply (a : FVec Ideal S8x2048x2048 .f32) (b : Fin 8) (i k : Fin 2048) :
    doped a (ix3 b i k) = dopRow a b i k :=
  congrArg (fun u : EReal => u + _) (acts_apply a b i k)

/-- The precondition: the first twenty-one entries of every sorted row of doped entries strictly fall. -/
theorem strict_of_pre (a : FVec Ideal S8x2048x2048 .f32) (h : Cert.Pre_no_tie.fn (F := Ideal) a = fun _ => 1#1)
    (b : Fin 8) (i : Fin 2048) (j : Fin 20) :
    dopRow a b i (order (dopRow a b i) ⟨j.val + 1, by omega⟩) < dopRow a b i (order (dopRow a b i) ⟨j.val, by omega⟩) := by
  have h := congrFun h (ix3 b i j)
  rw [pre_eq] at h
  pointwise at h
  have e := fun l => topK_fst (K := 21) (by decide) Cert.Pre_no_tie.Facts.sliceFits_S8x2048x2048_S8x2048x21 (doped a) b i l
  rw [e, e, funext (doped_apply a b i), doped_apply, doped_apply] at h
  have h' : ∀ p : Prop, ∀ _ : Decidable p, BitVec.ofBool (decide p) = 1#1 → p := by
    intro p _ hp
    by_contra hn
    rw [decide_eq_false hn] at hp
    exact absurd hp (by decide)
  exact lt_of_eq_of_lt (congrArg (fun q => dopRow a b i (order (dopRow a b i) q)) (Fin.ext (Nat.add_comm _ _))) (h' _ _ h)

/-- Whether one of the twenty selected entries of row `(b, i)` stands at `k`. -/
def Picked (a : FVec Ideal S8x2048x2048 .f32) (b : Fin 8) (i k : Fin 2048) : Prop :=
  ∃ j : Fin 20, order (dopRow a b i) (j.castLE (by decide)) = k

open Classical in
/-- The adjacency at one place. -/
theorem adjacency_apply (a : FVec Ideal S8x2048x2048 .f32) (b : Fin 8) (i k : Fin 2048) :
    adjacency a (ix3 b i k)
      = (if Picked a b i k then actRow a b i k else 0) + (if i.val = k.val then 1 else 0) := by
  pointwise [adjacency, eye]
  rw [topMask_apply, acts_apply, funext (doped_apply a b i)]
  refine congrArg₂ (fun u v : EReal => u + v) ?_ ?_
  · by_cases h : Picked a b i k
    · rw [if_pos h]; exact (congrArg (fun u : EReal => _ * u) (if_pos h)).trans (mul_one _)
    · rw [if_neg h]; exact (congrArg (fun u : EReal => _ * u) (if_neg h)).trans (mul_zero _)
  · have hb : IntOp.cmpi CmpIPredicate.eq (IntOp.addi (BitVec.ofNat 32 i.val) 0#32) (BitVec.ofNat 32 k.val)
        = BitVec.ofBool (decide (i.val = k.val)) := by
      refine congrArg BitVec.ofBool ?_
      rw [show IntOp.addi (BitVec.ofNat 32 i.val) 0#32 = BitVec.ofNat 32 i.val from BitVec.add_zero _]
      by_cases h : i.val = k.val
      · rw [h]; simp
      · rw [decide_eq_false h, beq_eq_false_iff_ne]
        intro q
        have := congrArg BitVec.toNat q
        simp only [BitVec.toNat_ofNat] at this
        omega
    rw [hb]
    by_cases h : i.val = k.val
    · rw [if_pos h, decide_eq_true h]; show ((1 : ℕ) : EReal) = 1; simp
    · rw [if_neg h, decide_eq_false h]; show ((0 : ℕ) : EReal) = 0; simp

open Classical in
/-- The degree of a row, as the reference sums it. -/
def refDeg (a : FVec Ideal S8x2048x2048 .f32) (b : Fin 8) (i : Fin 2048) : EReal :=
  ∑ k, ((if Picked a b i k then actRow a b i k else 0) + (if i.val = k.val then 1 else 0))

/-- The power of a row's degree at one place. -/
theorem degPow_apply (a : FVec Ideal S8x2048x2048 .f32) (b : Fin 8) (i : Fin 2048) :
    degPow a (ix2 b i) = Ideal.pow (refDeg a b i) ((-(1 / 2) : ℝ) : EReal) := by
  pointwise [degPow]
  rw [ofBits_negHalf]
  refine congrArg (fun u => Ideal.pow u _) (Finset.sum_congr rfl fun k _ => ?_)
  exact adjacency_apply a b i k

/-- The row factors at one place: the power, zero where it is infinite. -/
theorem degInv_apply (a : FVec Ideal S8x2048x2048 .f32) (b : Fin 8) (i : Fin 2048) :
    degInv a (ix2 b i) = if max (degPow a (ix2 b i)) (-degPow a (ix2 b i)) = (⊤ : EReal) then 0 else degPow a (ix2 b i) := by
  pointwise [degInv]
  rw [ofBits_posInf]
  rfl

/-- The reference's result at one place. -/
theorem refOut_apply (a : FVec Ideal S8x2048x2048 .f32) (b : Fin 8) (i k : Fin 2048) :
    refOut a (ix3 b i k) = degInv a (ix2 b i) * adjacency a (ix3 b i k) * degInv a (ix2 b k) := by
  pointwise [refOut]

end Cert.Proof

end
-- ==== Proof.NoiseFin.lean ====
/- The noise is nowhere plus infinity. -/
module

public import proofs.«01_k».proof.Proof.Noise
public import proofs.«01_k».proof.Proof.Row
public import Idealize.ShloMosaic.Lib.Pointwise
public import Idealize.ShloMosaic.Lib.IdealHost

@[expose] public section

noncomputable section

namespace Cert.Proof

open Idealize.ShloMosaic Cert.Pre_no_tie Cert.Pre_no_tie.Facts

attribute [local instance] Cert.Pre_no_tie.Gen.facts

/-- A bound of the draws, spread over the array. -/
def spread (v : FVec Ideal S_ .f32) : FVec Ideal S8x2048x2048 .f32 :=
  broadcastInDim S8x2048x2048 ![0, 1, 2] bcast_S1x1x1_S8x2048x2048_0_1_2 (broadcastInDim S1x1x1 ![] bcast_S_S1x1x1 v)

/-- The draws from the random words: a word's upper bits behind the exponent of one, minus one, scaled to the bounds. -/
def draws (lo hi : FVec Ideal S_ .f32) (w : IVec S8x2048x2048 32) : FVec Ideal S8x2048x2048 .f32 :=
  maximumf (spread lo)
    (addf
      (mulf (subf (bitcastToFloat .f32 (ori (Host.shrui w (broadcastInDim S8x2048x2048 ![] bcast_S_S8x2048x2048 (constantI S_ 32 9#32)))
              (broadcastInDim S8x2048x2048 ![] bcast_S_S8x2048x2048 (constantI S_ 32 1065353216#32))))
            (broadcastInDim S8x2048x2048 ![] bcast_S_S8x2048x2048 (constant S_ .f32 0x3F800000#32)))
        (broadcastInDim S8x2048x2048 ![0, 1, 2] bcast_S1x1x1_S8x2048x2048_0_1_2
          (subf (broadcastInDim S1x1x1 ![] bcast_S_S1x1x1 hi) (broadcastInDim S1x1x1 ![] bcast_S_S1x1x1 lo))))
      (spread lo))

/-- The generator's draws come from some array of random words. -/
theorem uniform_words (k : IVec S2 32) (lo hi : FVec Ideal S_ .f32) :
    ∃ w, fn_uniform (F := Ideal) k lo hi = draws lo hi w := ⟨_, rfl⟩

/-- A pattern whose exponent is not all ones denotes a real number. -/
theorem ofBits_real (w : BitVec 32) (h : (w.extractLsb' 23 8).toNat ≠ 255) : ∃ r : ℝ, Ideal.ofBits .f32 w = (r : EReal) := by
  unfold Ideal.ofBits Ideal.ieee
  dsimp only
  rw [if_neg (by simpa using h)]
  split
  · exact ⟨_, rfl⟩
  · exact ⟨_, rfl⟩

/-- The exponent of a drawn word is that of one. -/
theorem draw_exp (w : BitVec 32) : (((w >>> 9) ||| 1065353216#32).extractLsb' 23 8).toNat = 127 := by
  have h : ((w >>> 9) ||| 1065353216#32).extractLsb' 23 8 = 127#8 := by
    ext i hi
    interval_cases i <;> simp [BitVec.getElem_extractLsb', BitVec.getLsbD_or]
  rw [h]; rfl

/-- The draws between zero and one at one place. -/
theorem draws_apply (w : IVec S8x2048x2048 32) (b : Fin 8) (i k : Fin 2048) :
    ∃ r : ℝ, draws (constant S_ .f32 0x00000000#32) (constant S_ .f32 0x3F800000#32) w (ix3 b i k) = (r : EReal) := by
  pointwise [draws, spread]
  obtain ⟨r, hr⟩ := ofBits_real ((w (ix3 b i k) >>> 9) ||| 1065353216#32) (by rw [draw_exp]; decide)
  have e : IntOp.ori (IntOp.shrui ArithUnit.host (w (ix3 b i k)) 9#32) 1065353216#32
      = (w (ix3 b i k) >>> 9) ||| 1065353216#32 := rfl
  rw [e, hr]
  exact ⟨max 0 (r - 1), (EReal.coe_strictMono.monotone.map_max (a := (0 : ℝ)) (b := r - 1)).symm⟩

/-- The noise is nowhere plus infinity. -/
theorem noise_ne_top (b : Fin 8) (i k : Fin 2048) : noise (F := Ideal) (ix3 b i k) ≠ (⊤ : EReal) := by
  unfold noise
  obtain ⟨w, hw⟩ := uniform_words key (constant S_ .f32 0x00000000#32) (constant S_ .f32 0x3F800000#32)
  rw [hw]
  obtain ⟨r, hr⟩ := draws_apply w b i k
  obtain ⟨s, hs⟩ := ofBits_real 0x38D1B717#32 (by decide)
  have : ((r * s : ℝ) : EReal) ≠ ⊤ := EReal.coe_ne_top _
  rwa [EReal.coe_mul, ← hr, ← hs] at this

end Cert.Proof

end
-- ==== Proof.Final.lean ====
/- The reference's result is the kernel's, place by place, where the precondition holds. -/
module

public import proofs.«01_k».proof.Proof.Rank
public import proofs.«01_k».proof.Proof.RefAt
public import proofs.«01_k».proof.Proof.NoiseFin

@[expose] public section

noncomputable section

namespace Cert.Proof

open Idealize.ShloMosaic

attribute [local instance] Cert.ReferenceIdeal.Gen.facts Cert.Pre_no_tie.Gen.facts

variable (a : FVec Ideal Cert.ReferenceIdeal.S8x2048x2048 .f32) (b : Fin 8) (i k : Fin 2048)

/-- Activations are nonnegative. -/
theorem actRow_nonneg : 0 ≤ actRow a b i k := le_max_right _ _

/-- The degree of a row in the kernel is at least one. -/
theorem one_le_rowDeg : 1 ≤ rowDeg (actRow a b i) (dopRow a b i) := by
  unfold rowDeg
  refine le_add_of_nonneg_right (Finset.sum_nonneg fun l _ => ?_)
  split
  · exact actRow_nonneg a b i l
  · exact le_rfl

/-- A doped entry is plus infinity only where the activation is. -/
theorem actRow_top (h : dopRow a b i k = ⊤) : actRow a b i k = ⊤ := by
  by_contra hn
  exact EReal.add_ne_top hn (noise_ne_top b i k) h

variable (h : Cert.Pre_no_tie.fn (F := Ideal) a = fun _ => 1#1)

include h in
/-- In a row without plus infinity the kernel's mask is the reference's. -/
theorem mask_iff (ht : ∀ l, dopRow a b i l ≠ ⊤) : thr (dopRow a b i) 20 ≤ dopRow a b i k ↔ Picked a b i k :=
  reach_iff (order_bijective _).surjective (fun _ _ hl => order_anti _ hl) ht (by decide)
    (fun j hj => strict_of_pre a h b i ⟨j, hj⟩) k

/-- In a row with plus infinity the kernel's degree is plus infinity. -/
theorem rowDeg_top (hk : dopRow a b i k = ⊤) : rowDeg (actRow a b i) (dopRow a b i) = ⊤ := by
  unfold rowDeg
  have e : ∑ l, (if thr (dopRow a b i) 20 ≤ dopRow a b i l then actRow a b i l else 0) = ⊤ := by
    refine sum_eq_top _ (fun l => ?_) k ?_
    · split
      · exact actRow_nonneg a b i l
      · exact le_rfl
    · rw [if_pos (hk ▸ le_top), actRow_top a b i k hk]
  rw [e]
  exact EReal.add_top_of_ne_bot (by decide)

open Classical in
/-- In a row with plus infinity the reference's degree is plus infinity. -/
theorem refDeg_top (hk : dopRow a b i k = ⊤) : refDeg a b i = ⊤ := by
  have h0 : dopRow a b i (order (dopRow a b i) 0) = ⊤ := by
    obtain ⟨l, hl⟩ := (order_bijective (dopRow a b i)).surjective k
    refine top_le_iff.mp (hk ▸ hl ▸ ?_)
    rcases eq_or_ne l 0 with e | e
    · rw [e]
    · exact order_anti _ (Fin.pos_iff_ne_zero.mpr e)
  unfold refDeg
  refine sum_eq_top _ (fun l => add_nonneg ?_ ?_) (order (dopRow a b i) 0) ?_
  · split
    · exact actRow_nonneg a b i l
    · exact le_rfl
  · split
    · exact zero_le_one
    · exact le_rfl
  · rw [if_pos ⟨0, rfl⟩, actRow_top a b i _ h0]
    refine EReal.top_add_of_ne_bot ?_
    split
    · decide
    · decide

include h in
open Classical in
/-- The reference's degree of a row is the kernel's. -/
theorem refDeg_eq : refDeg a b i = rowDeg (actRow a b i) (dopRow a b i) := by
  by_cases ht : ∀ l, dopRow a b i l ≠ ⊤
  · unfold refDeg rowDeg
    rw [Finset.sum_add_distrib, add_comm]
    congr 1
    · have e : ∀ l : Fin 2048, (if i.val = l.val then (1 : EReal) else 0) = if i = l then 1 else 0 := fun l =>
        if_congr Fin.ext_iff.symm rfl rfl
      rw [Finset.sum_congr rfl fun l _ => e l, Finset.sum_ite_eq, if_pos (Finset.mem_univ _)]
    · exact Finset.sum_congr rfl fun l _ => if_congr (mask_iff a b i l h ht).symm rfl rfl
  · push Not at ht
    obtain ⟨l, hl⟩ := ht
    rw [refDeg_top a b i l hl, rowDeg_top a b i l hl]

include h in
/-- The reference's factor of a row is the kernel's. -/
theorem degInv_eq : degInv a (ix2 b i) = kerFac a b i := by
  have hp := pow_eq_rsqrt _ (one_le_rowDeg a b i)
  rw [degInv_apply, degPow_apply, refDeg_eq a b i h, hp.1, if_neg hp.2]
  rfl

/-- In a row with plus infinity the kernel's factor is zero. -/
theorem kerFac_zero (hk : dopRow a b i k = ⊤) : kerFac a b i = 0 := by
  unfold kerFac
  rw [rowDeg_top a b i k hk]
  rfl

include h in
open Classical in
/-- The reference's result at one place is the kernel's. -/
theorem refOut_eq : refOut a (ix3 b i k) = kerOut a b i k := by
  rw [refOut_apply, adjacency_apply, degInv_eq a b i h, degInv_eq a b k h]
  unfold kerOut
  by_cases ht : ∀ l, dopRow a b i l ≠ ⊤
  · rw [mul_comm (kerFac a b i), if_congr (mask_iff a b i k h ht).symm rfl rfl]
  · push Not at ht
    obtain ⟨l, hl⟩ := ht
    rw [kerFac_zero a b i l hl, mul_zero, zero_mul]

include h in
/-- The reference's result is the kernel's. -/
theorem refOut_eq_kerOut : refOut a = fun j => kerOut a (j 0) (j 1) (j 2) := by
  funext j
  idx_vars j
  exact refOut_eq a _ _ _ h

end Cert.Proof

end
-- ==== Proof.lean ====
/- The claims assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.RefRun
public import proofs.«01_k».proof.Proof.Final

public import Idealize.ShloMosaic.Adequacy
public import Idealize.ShloMosaic.Init

@[expose] public section

noncomputable section

namespace Cert.Proof

open Idealize.ShloMosaic Idealize.SL.Sem Cert.Kernel

attribute [local instance] Cert.ReferenceIdeal.Gen.facts Cert.Pre_no_tie.Gen.facts Cert.KernelIdeal.Gen.facts

/-- Every claim of the certificate. -/
theorem claim : Cert.Claim :=
  ⟨Cert.Kernel.Gen.facts, Cert.KernelIdeal.Gen.facts, Cert.ReferenceIdeal.Gen.facts, Cert.Pre_no_tie.Gen.facts,
    fun m g _ => Cert.Kernel.Gen.frame m g, fun m g _ => Cert.KernelIdeal.Gen.frame m g,
    fun m g _ => Cert.KernelIdeal.Gen.frame m g, fun m g _ => RefRun.frame m g, fun m g _ => RefRun.frame m g, trivial,
    fun m g m' g' hpre hm => ⟨fun c j => kerOut (m ((c.tc : Thread _ _).loc Cert.KernelIdeal.main_arg0)) (j 0) (j 1) (j 2),
      KerRun.out_run m g,
      θ_run_mono (RefRun.out_run m' g') fun r h c => ⟨(h c).1.trans (by
        rw [hm c]; exact refOut_eq_kerOut _ (hpre c)), (h c).2⟩⟩⟩

end Cert.Proof

end
